-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S128x4096 : Shape := ⟨2, ![128, 4096]⟩
abbrev S32 : Shape := ⟨1, ![32]⟩
abbrev S_ : Shape := ⟨0, ![]⟩
abbrev S128x128 : Shape := ⟨2, ![128, 128]⟩
abbrev S1 : Shape := ⟨1, ![1]⟩
abbrev S128x8192 : Shape := ⟨2, ![128, 8192]⟩
abbrev S4096x512 : Shape := ⟨2, ![4096, 512]⟩
abbrev S128x512 : Shape := ⟨2, ![128, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x8192, .f32⟩
  | .hbm, ⟨2, _⟩ => ⟨S128x4096, .f32⟩
  | .hbm, ⟨3, _⟩ => ⟨S128x8192, .f32⟩
  | .local _ .vmem, ⟨0, _⟩ => ⟨S4096x128, .f32⟩
  | .local _ .vmem, ⟨1, _⟩ => ⟨S128x4096, .f32⟩
  | .local _ .vmem, ⟨2, _⟩ => ⟨S128x4096, .f32⟩
  | .local _ .vmem, ⟨3, _⟩ => ⟨S4096x512, .f32⟩
  | .local _ .vmem, ⟨4, _⟩ => ⟨S4096x512, .f32⟩
  | .local _ .vmem, ⟨5, _⟩ => ⟨S128x512, .f32⟩
  | .local _ .vmem, ⟨6, _⟩ => ⟨S128x512, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc0_sem0_0 : DmaSem sig := 0
abbrev cc0_sem1_0 : DmaSem sig := 1
abbrev cc1_sem0_0 : DmaSem sig := 66
abbrev cc1_sem1_0 : DmaSem sig := 67
abbrev cc1_sem1_1 : DmaSem sig := 68
abbrev cc1_sem2_0 : DmaSem sig := 69
abbrev cc1_sem2_1 : DmaSem sig := 70
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v128 : BitVec 32 := Scalar.muli v2 c128_i32
  let v129 : Index := Scalar.indexCast v128
  let c0 : Index := 0#32
  ![v129.toNat, 0]
def k0_off2 (d0 : Dev nD) : Fin 2 → Nat :=
  let c0_126 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_125 : BitVec 32 := 128#32
  let v132 : BitVec 32 := Scalar.muli v2 c128_i32_125
  let v133 : Index := Scalar.indexCast v132
  ![0, v133.toNat]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 2 → Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_130 : BitVec 32 := 128#32
  let v138 : BitVec 32 := Scalar.muli v2 c128_i32_130
  ![0, v138.toNat]
def k0_off5 (d0 : Dev nD) (c1_i32_127 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v135 : BitVec 32 := Scalar.addi v2 c1_i32_127
  let c32_i32_128 : BitVec 32 := 32#32
  let v136 : BitVec 32 := Scalar.remsi v135 c32_i32_128
  let c128_i32_129 : BitVec 32 := 128#32
  let v137 : BitVec 32 := Scalar.muli v136 c128_i32_129
  let c0_i32_135 : BitVec 32 := 0#32
  ![v137.toNat, 0]
def k0_dev32 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_127 : BitVec 32 := 1#32
  let v135 : BitVec 32 := Scalar.addi v2 c1_i32_127
  let c32_i32_128 : BitVec 32 := 32#32
  let v136 : BitVec 32 := Scalar.remsi v135 c32_i32_128
  let c1_i32_132 : BitVec 32 := 1#32
  let v139 : BitVec 32 := Scalar.muli v136 c1_i32_132
  let v140 : BitVec 32 := Scalar.addi c0_i32_133 v139
  v140.toNat
def k0_dev33 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_136 : BitVec 32 := 2#32
  let v147 : BitVec 32 := Scalar.addi v2 c2_i32_136
  let c32_i32_137 : BitVec 32 := 32#32
  let v148 : BitVec 32 := Scalar.remsi v147 c32_i32_137
  let c1_i32_141 : BitVec 32 := 1#32
  let v151 : BitVec 32 := Scalar.muli v148 c1_i32_141
  let v152 : BitVec 32 := Scalar.addi c0_i32_142 v151
  v152.toNat
def k0_dev34 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_145 : BitVec 32 := 3#32
  let v159 : BitVec 32 := Scalar.addi v2 c3_i32_145
  let c32_i32_146 : BitVec 32 := 32#32
  let v160 : BitVec 32 := Scalar.remsi v159 c32_i32_146
  let c1_i32_150 : BitVec 32 := 1#32
  let v163 : BitVec 32 := Scalar.muli v160 c1_i32_150
  let v164 : BitVec 32 := Scalar.addi c0_i32_151 v163
  v164.toNat
def k0_dev35 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_154 : BitVec 32 := 4#32
  let v171 : BitVec 32 := Scalar.addi v2 c4_i32_154
  let c32_i32_155 : BitVec 32 := 32#32
  let v172 : BitVec 32 := Scalar.remsi v171 c32_i32_155
  let c1_i32_159 : BitVec 32 := 1#32
  let v175 : BitVec 32 := Scalar.muli v172 c1_i32_159
  let v176 : BitVec 32 := Scalar.addi c0_i32_160 v175
  v176.toNat
def k0_dev36 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_163 : BitVec 32 := 5#32
  let v183 : BitVec 32 := Scalar.addi v2 c5_i32_163
  let c32_i32_164 : BitVec 32 := 32#32
  let v184 : BitVec 32 := Scalar.remsi v183 c32_i32_164
  let c1_i32_168 : BitVec 32 := 1#32
  let v187 : BitVec 32 := Scalar.muli v184 c1_i32_168
  let v188 : BitVec 32 := Scalar.addi c0_i32_169 v187
  v188.toNat
def k0_dev37 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_172 : BitVec 32 := 6#32
  let v195 : BitVec 32 := Scalar.addi v2 c6_i32_172
  let c32_i32_173 : BitVec 32 := 32#32
  let v196 : BitVec 32 := Scalar.remsi v195 c32_i32_173
  let c1_i32_177 : BitVec 32 := 1#32
  let v199 : BitVec 32 := Scalar.muli v196 c1_i32_177
  let v200 : BitVec 32 := Scalar.addi c0_i32_178 v199
  v200.toNat
def k0_dev38 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_181 : BitVec 32 := 7#32
  let v207 : BitVec 32 := Scalar.addi v2 c7_i32_181
  let c32_i32_182 : BitVec 32 := 32#32
  let v208 : BitVec 32 := Scalar.remsi v207 c32_i32_182
  let c1_i32_186 : BitVec 32 := 1#32
  let v211 : BitVec 32 := Scalar.muli v208 c1_i32_186
  let v212 : BitVec 32 := Scalar.addi c0_i32_187 v211
  v212.toNat
def k0_dev39 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_190 : BitVec 32 := 8#32
  let v219 : BitVec 32 := Scalar.addi v2 c8_i32_190
  let c32_i32_191 : BitVec 32 := 32#32
  let v220 : BitVec 32 := Scalar.remsi v219 c32_i32_191
  let c1_i32_195 : BitVec 32 := 1#32
  let v223 : BitVec 32 := Scalar.muli v220 c1_i32_195
  let v224 : BitVec 32 := Scalar.addi c0_i32_196 v223
  v224.toNat
def k0_dev40 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_199 : BitVec 32 := 9#32
  let v231 : BitVec 32 := Scalar.addi v2 c9_i32_199
  let c32_i32_200 : BitVec 32 := 32#32
  let v232 : BitVec 32 := Scalar.remsi v231 c32_i32_200
  let c1_i32_204 : BitVec 32 := 1#32
  let v235 : BitVec 32 := Scalar.muli v232 c1_i32_204
  let v236 : BitVec 32 := Scalar.addi c0_i32_205 v235
  v236.toNat
def k0_dev41 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_208 : BitVec 32 := 10#32
  let v243 : BitVec 32 := Scalar.addi v2 c10_i32_208
  let c32_i32_209 : BitVec 32 := 32#32
  let v244 : BitVec 32 := Scalar.remsi v243 c32_i32_209
  let c1_i32_213 : BitVec 32 := 1#32
  let v247 : BitVec 32 := Scalar.muli v244 c1_i32_213
  let v248 : BitVec 32 := Scalar.addi c0_i32_214 v247
  v248.toNat
def k0_dev42 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_217 : BitVec 32 := 11#32
  let v255 : BitVec 32 := Scalar.addi v2 c11_i32_217
  let c32_i32_218 : BitVec 32 := 32#32
  let v256 : BitVec 32 := Scalar.remsi v255 c32_i32_218
  let c1_i32_222 : BitVec 32 := 1#32
  let v259 : BitVec 32 := Scalar.muli v256 c1_i32_222
  let v260 : BitVec 32 := Scalar.addi c0_i32_223 v259
  v260.toNat
def k0_dev43 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_226 : BitVec 32 := 12#32
  let v267 : BitVec 32 := Scalar.addi v2 c12_i32_226
  let c32_i32_227 : BitVec 32 := 32#32
  let v268 : BitVec 32 := Scalar.remsi v267 c32_i32_227
  let c1_i32_231 : BitVec 32 := 1#32
  let v271 : BitVec 32 := Scalar.muli v268 c1_i32_231
  let v272 : BitVec 32 := Scalar.addi c0_i32_232 v271
  v272.toNat
def k0_dev44 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_235 : BitVec 32 := 13#32
  let v279 : BitVec 32 := Scalar.addi v2 c13_i32_235
  let c32_i32_236 : BitVec 32 := 32#32
  let v280 : BitVec 32 := Scalar.remsi v279 c32_i32_236
  let c1_i32_240 : BitVec 32 := 1#32
  let v283 : BitVec 32 := Scalar.muli v280 c1_i32_240
  let v284 : BitVec 32 := Scalar.addi c0_i32_241 v283
  v284.toNat
def k0_dev45 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_244 : BitVec 32 := 14#32
  let v291 : BitVec 32 := Scalar.addi v2 c14_i32_244
  let c32_i32_245 : BitVec 32 := 32#32
  let v292 : BitVec 32 := Scalar.remsi v291 c32_i32_245
  let c1_i32_249 : BitVec 32 := 1#32
  let v295 : BitVec 32 := Scalar.muli v292 c1_i32_249
  let v296 : BitVec 32 := Scalar.addi c0_i32_250 v295
  v296.toNat
def k0_dev46 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_253 : BitVec 32 := 15#32
  let v303 : BitVec 32 := Scalar.addi v2 c15_i32_253
  let c32_i32_254 : BitVec 32 := 32#32
  let v304 : BitVec 32 := Scalar.remsi v303 c32_i32_254
  let c1_i32_258 : BitVec 32 := 1#32
  let v307 : BitVec 32 := Scalar.muli v304 c1_i32_258
  let v308 : BitVec 32 := Scalar.addi c0_i32_259 v307
  v308.toNat
def k0_dev47 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_262 : BitVec 32 := 16#32
  let v315 : BitVec 32 := Scalar.addi v2 c16_i32_262
  let c32_i32_263 : BitVec 32 := 32#32
  let v316 : BitVec 32 := Scalar.remsi v315 c32_i32_263
  let c1_i32_267 : BitVec 32 := 1#32
  let v319 : BitVec 32 := Scalar.muli v316 c1_i32_267
  let v320 : BitVec 32 := Scalar.addi c0_i32_268 v319
  v320.toNat
def k0_dev48 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_271 : BitVec 32 := 17#32
  let v327 : BitVec 32 := Scalar.addi v2 c17_i32_271
  let c32_i32_272 : BitVec 32 := 32#32
  let v328 : BitVec 32 := Scalar.remsi v327 c32_i32_272
  let c1_i32_276 : BitVec 32 := 1#32
  let v331 : BitVec 32 := Scalar.muli v328 c1_i32_276
  let v332 : BitVec 32 := Scalar.addi c0_i32_277 v331
  v332.toNat
def k0_dev49 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_280 : BitVec 32 := 18#32
  let v339 : BitVec 32 := Scalar.addi v2 c18_i32_280
  let c32_i32_281 : BitVec 32 := 32#32
  let v340 : BitVec 32 := Scalar.remsi v339 c32_i32_281
  let c1_i32_285 : BitVec 32 := 1#32
  let v343 : BitVec 32 := Scalar.muli v340 c1_i32_285
  let v344 : BitVec 32 := Scalar.addi c0_i32_286 v343
  v344.toNat
def k0_dev50 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_289 : BitVec 32 := 19#32
  let v351 : BitVec 32 := Scalar.addi v2 c19_i32_289
  let c32_i32_290 : BitVec 32 := 32#32
  let v352 : BitVec 32 := Scalar.remsi v351 c32_i32_290
  let c1_i32_294 : BitVec 32 := 1#32
  let v355 : BitVec 32 := Scalar.muli v352 c1_i32_294
  let v356 : BitVec 32 := Scalar.addi c0_i32_295 v355
  v356.toNat
def k0_dev51 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_298 : BitVec 32 := 20#32
  let v363 : BitVec 32 := Scalar.addi v2 c20_i32_298
  let c32_i32_299 : BitVec 32 := 32#32
  let v364 : BitVec 32 := Scalar.remsi v363 c32_i32_299
  let c1_i32_303 : BitVec 32 := 1#32
  let v367 : BitVec 32 := Scalar.muli v364 c1_i32_303
  let v368 : BitVec 32 := Scalar.addi c0_i32_304 v367
  v368.toNat
def k0_dev52 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_307 : BitVec 32 := 21#32
  let v375 : BitVec 32 := Scalar.addi v2 c21_i32_307
  let c32_i32_308 : BitVec 32 := 32#32
  let v376 : BitVec 32 := Scalar.remsi v375 c32_i32_308
  let c1_i32_312 : BitVec 32 := 1#32
  let v379 : BitVec 32 := Scalar.muli v376 c1_i32_312
  let v380 : BitVec 32 := Scalar.addi c0_i32_313 v379
  v380.toNat
def k0_dev53 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_316 : BitVec 32 := 22#32
  let v387 : BitVec 32 := Scalar.addi v2 c22_i32_316
  let c32_i32_317 : BitVec 32 := 32#32
  let v388 : BitVec 32 := Scalar.remsi v387 c32_i32_317
  let c1_i32_321 : BitVec 32 := 1#32
  let v391 : BitVec 32 := Scalar.muli v388 c1_i32_321
  let v392 : BitVec 32 := Scalar.addi c0_i32_322 v391
  v392.toNat
def k0_dev54 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_325 : BitVec 32 := 23#32
  let v399 : BitVec 32 := Scalar.addi v2 c23_i32_325
  let c32_i32_326 : BitVec 32 := 32#32
  let v400 : BitVec 32 := Scalar.remsi v399 c32_i32_326
  let c1_i32_330 : BitVec 32 := 1#32
  let v403 : BitVec 32 := Scalar.muli v400 c1_i32_330
  let v404 : BitVec 32 := Scalar.addi c0_i32_331 v403
  v404.toNat
def k0_dev55 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_334 : BitVec 32 := 24#32
  let v411 : BitVec 32 := Scalar.addi v2 c24_i32_334
  let c32_i32_335 : BitVec 32 := 32#32
  let v412 : BitVec 32 := Scalar.remsi v411 c32_i32_335
  let c1_i32_339 : BitVec 32 := 1#32
  let v415 : BitVec 32 := Scalar.muli v412 c1_i32_339
  let v416 : BitVec 32 := Scalar.addi c0_i32_340 v415
  v416.toNat
def k0_dev56 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_343 : BitVec 32 := 25#32
  let v423 : BitVec 32 := Scalar.addi v2 c25_i32_343
  let c32_i32_344 : BitVec 32 := 32#32
  let v424 : BitVec 32 := Scalar.remsi v423 c32_i32_344
  let c1_i32_348 : BitVec 32 := 1#32
  let v427 : BitVec 32 := Scalar.muli v424 c1_i32_348
  let v428 : BitVec 32 := Scalar.addi c0_i32_349 v427
  v428.toNat
def k0_dev57 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_352 : BitVec 32 := 26#32
  let v435 : BitVec 32 := Scalar.addi v2 c26_i32_352
  let c32_i32_353 : BitVec 32 := 32#32
  let v436 : BitVec 32 := Scalar.remsi v435 c32_i32_353
  let c1_i32_357 : BitVec 32 := 1#32
  let v439 : BitVec 32 := Scalar.muli v436 c1_i32_357
  let v440 : BitVec 32 := Scalar.addi c0_i32_358 v439
  v440.toNat
def k0_dev58 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_361 : BitVec 32 := 27#32
  let v447 : BitVec 32 := Scalar.addi v2 c27_i32_361
  let c32_i32_362 : BitVec 32 := 32#32
  let v448 : BitVec 32 := Scalar.remsi v447 c32_i32_362
  let c1_i32_366 : BitVec 32 := 1#32
  let v451 : BitVec 32 := Scalar.muli v448 c1_i32_366
  let v452 : BitVec 32 := Scalar.addi c0_i32_367 v451
  v452.toNat
def k0_dev59 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_370 : BitVec 32 := 28#32
  let v459 : BitVec 32 := Scalar.addi v2 c28_i32_370
  let c32_i32_371 : BitVec 32 := 32#32
  let v460 : BitVec 32 := Scalar.remsi v459 c32_i32_371
  let c1_i32_375 : BitVec 32 := 1#32
  let v463 : BitVec 32 := Scalar.muli v460 c1_i32_375
  let v464 : BitVec 32 := Scalar.addi c0_i32_376 v463
  v464.toNat
def k0_dev60 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_379 : BitVec 32 := 29#32
  let v471 : BitVec 32 := Scalar.addi v2 c29_i32_379
  let c32_i32_380 : BitVec 32 := 32#32
  let v472 : BitVec 32 := Scalar.remsi v471 c32_i32_380
  let c1_i32_384 : BitVec 32 := 1#32
  let v475 : BitVec 32 := Scalar.muli v472 c1_i32_384
  let v476 : BitVec 32 := Scalar.addi c0_i32_385 v475
  v476.toNat
def k0_dev61 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_388 : BitVec 32 := 30#32
  let v483 : BitVec 32 := Scalar.addi v2 c30_i32_388
  let c32_i32_389 : BitVec 32 := 32#32
  let v484 : BitVec 32 := Scalar.remsi v483 c32_i32_389
  let c1_i32_393 : BitVec 32 := 1#32
  let v487 : BitVec 32 := Scalar.muli v484 c1_i32_393
  let v488 : BitVec 32 := Scalar.addi c0_i32_394 v487
  v488.toNat
def k0_dev62 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_397 : BitVec 32 := 31#32
  let v495 : BitVec 32 := Scalar.addi v2 c31_i32_397
  let c32_i32_398 : BitVec 32 := 32#32
  let v496 : BitVec 32 := Scalar.remsi v495 c32_i32_398
  let c1_i32_402 : BitVec 32 := 1#32
  let v499 : BitVec 32 := Scalar.muli v496 c1_i32_402
  let v500 : BitVec 32 := Scalar.addi c0_i32_403 v499
  v500.toNat
def k0_off6 (d0 : Dev nD) (c1_i32_407 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_406 : BitVec 32 := 32#32
  let v507 : BitVec 32 := Scalar.addi v2 c32_i32_406
  let v508 : BitVec 32 := Scalar.subi v507 c1_i32_407
  let c32_i32_408 : BitVec 32 := 32#32
  let v509 : BitVec 32 := Scalar.remsi v508 c32_i32_408
  ![v509.toNat]
def k0_off7 (d0 : Dev nD) (c1_i32_407 : BitVec 32) : Fin 2 → Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_406 : BitVec 32 := 32#32
  let v507 : BitVec 32 := Scalar.addi v2 c32_i32_406
  let v508 : BitVec 32 := Scalar.subi v507 c1_i32_407
  let c32_i32_408 : BitVec 32 := 32#32
  let v509 : BitVec 32 := Scalar.remsi v508 c32_i32_408
  let c128_i32_416 : BitVec 32 := 128#32
  let v514 : BitVec 32 := Scalar.muli v509 c128_i32_416
  ![0, v514.toNat]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.ReferenceRun.lean ====
/-
  The reference program's run: its one operation leaves the product of the whole arrays.
-/
module

public import proofs.«01_k».proof.Proof.Gen.ReferenceIdeal
public import Idealize.ShloMosaic.Lib.StableHlo.Run

@[expose] public section

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- The product of the whole arrays. -/
abbrev dot (x : (⟨S4096x4096, .f32⟩ : BufTy).Contents (Elt F)) (w : (⟨S4096x8192, .f32⟩ : BufTy).Contents (Elt F)) :
    (⟨S4096x8192, .f32⟩ : BufTy).Contents (Elt F) :=
  Host.dotGeneral dot_S4096x4096_S4096x8192_S4096x8192_1_0_0_1_n_n none x w

theorem main_one (c : Dev nD) : main (F := F) c = seq [binary main_arg0 main_arg1 main_v0 dot] := rfl

theorem run_dot (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = dot (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have hrun := run_seq (by decide) (by decide) (defs (F := F)) main (fun _ => [binary main_arg0 main_arg1 main_v0 dot]) main_one
    (fun _ => binary_bufs_sub ..) m ρ
  refine (θ_run defs _ _).mono (fun _ h c => ⟨?_, ?_, ?_⟩) hrun
  · exact (h c main_v0).trans (by after_results)
  · exact (h c main_arg0).trans (by after_results)
  · exact (h c main_arg1).trans (by after_results)

end Cert.ReferenceIdeal.Whole
-- ==== Proof.ExchangeSetup.lean ====
/-
  The all-to-all's protocol: the buffers cut in blocks, the semaphore cells, what each device hands over with each
  signal and each copy, and what each owes at the start.

  Device `c` holds 4096 rows of 128 columns (its input) and fills 128 rows of 4096 columns (its output). Row block `p` of
  its input goes to column block `c` of device `p`'s output. Before anything is sent every device signals every other
  device's barrier cell: the unit device `c` pays to device `p` carries the right to fill block `p` of `c`'s output.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Pipeline.ValueKit.Geometry
public import Idealize.ShloMosaic.Lib.Rounds
public import Idealize.ShloMosaic.Lib.Rounds.Family
public import Idealize.ShloMosaic.Lib.Ring
public import Idealize.ShloMosaic.Lib.Tactic

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The resources beside the memory's own: the pipeline's staging cells, and the protocol's cells with the devices as the
    names of the duties. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

abbrev 𝒱₀ : Variants := Variants.none

/-! ## Going round the devices -/

/-- The device `e` places further round. -/
def onw (c : Dev nD) (e : ℕ) : Dev nD := ⟨(c.val + e) % 32, Nat.mod_lt _ (by decide)⟩
/-- The device `e` places back. -/
def fr (c : Dev nD) (e : ℕ) : Dev nD := ⟨(c.val + 32 - e) % 32, Nat.mod_lt _ (by decide)⟩

theorem to_ne (c : Dev nD) {e : ℕ} (h1 : 1 ≤ e) (h2 : e < 32) : onw c e ≠ c := fun h => by
  have := congrArg Fin.val h; have hc := c.isLt; simp only [onw, nD] at *; omega
theorem fr_ne (c : Dev nD) {e : ℕ} (h1 : 1 ≤ e) (h2 : e < 32) : fr c e ≠ c := fun h => by
  have := congrArg Fin.val h; have hc := c.isLt; simp only [fr, nD] at *; omega

theorem to_injOn (c : Dev nD) : Set.InjOn (onw c) (Finset.Ico 1 32 : Finset ℕ) := fun a ha b hb h => by
  have h := congrArg Fin.val h; have hc := c.isLt
  simp only [onw, Finset.coe_Ico, Set.mem_Ico, nD] at *; omega
theorem fr_injOn (c : Dev nD) : Set.InjOn (fr c) (Finset.Ico 1 32 : Finset ℕ) := fun a ha b hb h => by
  have h := congrArg Fin.val h; have hc := c.isLt
  simp only [fr, Finset.coe_Ico, Set.mem_Ico, nD] at *; omega

theorem image_to (c : Dev nD) : (Finset.Ico 1 32).image (onw c) = Finset.univ.erase c := by
  revert c; decide +kernel
theorem image_fr (c : Dev nD) : (Finset.Ico 1 32).image (fr c) = Finset.univ.erase c := by
  revert c; decide +kernel

/-- Something for every device is the one for `c` and those for the devices 1, …, 31 places further. -/
theorem deal_to (c : Dev nD) (Φ : Dev nD → sProp 𝕄) :
    bigSep Finset.univ Φ = iprop(Φ c ∗ bigSep (Finset.Ico 1 32) fun e => Φ (onw c e)) := by
  rw [bigSep_univ_at _ c, ← image_to, bigSep_image_of_injOn (to_injOn c)]
/-- The same counted backwards. -/
theorem deal_fr (c : Dev nD) (Φ : Dev nD → sProp 𝕄) :
    bigSep Finset.univ Φ = iprop(Φ c ∗ bigSep (Finset.Ico 1 32) fun e => Φ (fr c e)) := by
  rw [bigSep_univ_at _ c, ← image_fr, bigSep_image_of_injOn (fr_injOn c)]
theorem others_to (c : Dev nD) (Φ : Dev nD → sProp 𝕄) :
    bigSep (Finset.univ.erase c) Φ = bigSep (Finset.Ico 1 32) fun e => Φ (onw c e) := by
  rw [← image_to, bigSep_image_of_injOn (to_injOn c)]
theorem others_fr (c : Dev nD) (Φ : Dev nD → sProp 𝕄) :
    bigSep (Finset.univ.erase c) Φ = bigSep (Finset.Ico 1 32) fun e => Φ (fr c e) := by
  rw [← image_fr, bigSep_image_of_injOn (fr_injOn c)]

theorem Ico_head {d : ℕ} (hd : d < 32) (Φ : ℕ → sProp 𝕄) :
    bigSep (Finset.Ico d 32) Φ = iprop(Φ d ∗ bigSep (Finset.Ico (d + 1) 32) Φ) := by
  rw [show Finset.Ico d 32 = insert d (Finset.Ico (d + 1) 32) from by ext x; simp only [Finset.mem_Ico, Finset.mem_insert]; omega,
    bigSep_insert (by simp)]; rfl
theorem Ico_last {d : ℕ} (hd : 1 ≤ d) (Φ : ℕ → sProp 𝕄) :
    bigSep (Finset.Ico 1 (d + 1)) Φ = iprop(Φ d ∗ bigSep (Finset.Ico 1 d) Φ) := by
  rw [show Finset.Ico 1 (d + 1) = insert d (Finset.Ico 1 d) from by ext x; simp only [Finset.mem_Ico, Finset.mem_insert]; omega,
    bigSep_insert (by simp)]; rfl

/-! ## The buffers and their blocks -/

abbrev xM : Memref sig .tc .vmem S4096x128 .f32 := Memref.whole cc0_stg0_0
abbrev yM : Memref sig .tc .vmem S128x4096 .f32 := Memref.whole cc0_stg1_0

theorem rows_inb (p : Dev nD) : ∀ a : Fin 2, (![128 * p.val, 0] : Fin 2 → ℕ) a + S128x128.size a ≤ S4096x128.size a := by
  revert p; decide +kernel
theorem cols_inb (p : Dev nD) : ∀ a : Fin 2, (![0, 128 * p.val] : Fin 2 → ℕ) a + S128x128.size a ≤ S128x4096.size a := by
  revert p; decide +kernel

abbrev rowsR (p : Dev nD) : Rect S4096x128 := Rect.unit (s := S4096x128) ![128 * p.val, 0] S128x128.size (rows_inb p)
abbrev colsR (p : Dev nD) : Rect S128x4096 := Rect.unit (s := S128x4096) ![0, 128 * p.val] S128x128.size (cols_inb p)
/-- Row block `p` of the input. -/
abbrev rowsM (p : Dev nD) : Memref sig .tc .vmem S128x128 .f32 := xM.slice (rowsR p) (fun _ => rfl)
/-- Column block `p` of the output. -/
abbrev colsM (p : Dev nD) : Memref sig .tc .vmem S128x128 .f32 := yM.slice (colsR p) (fun _ => rfl)

/-- The contents of one device's whole input and of its whole output. -/
abbrev Inp (F : FTy → Type) : Type := (cc0_stg0_0 : Ref sig .tc).ty.Contents (Elt F)
abbrev Out (F : FTy → Type) : Type := (cc0_stg1_0 : Ref sig .tc).ty.Contents (Elt F)

theorem mem_rows (p : Dev nD) (i : S4096x128.Idx) : i ∈ (rowsM p).view.set ↔ 128 * p.val ≤ (i 0).val ∧ (i 0).val < 128 * p.val + 128 :=
  ValueKit.mem_set_slice_whole_iff cc0_stg0_0 (rowsR p) i (by
    rw [Rect.mem_set_unit]
    refine Fin.forall_fin_two.trans ⟨fun h => h.1, fun h => ⟨h, Nat.zero_le _, ?_⟩⟩
    show (i 1).val < 0 + 128
    exact (Nat.zero_add 128).symm ▸ (i 1).isLt)
theorem mem_cols (p : Dev nD) (i : S128x4096.Idx) : i ∈ (colsM p).view.set ↔ 128 * p.val ≤ (i 1).val ∧ (i 1).val < 128 * p.val + 128 :=
  ValueKit.mem_set_slice_whole_iff cc0_stg1_0 (colsR p) i (by
    rw [Rect.mem_set_unit]
    refine Fin.forall_fin_two.trans ⟨fun h => h.2, fun h => ⟨⟨Nat.zero_le _, ?_⟩, h⟩⟩
    show (i 0).val < 0 + 128
    exact (Nat.zero_add 128).symm ▸ (i 0).isLt)

theorem rows_disjoint (p p' : Dev nD) (h : p ≠ p') : Disjoint (rowsM p).view.set (rowsM p').view.set :=
  Finset.disjoint_left.mpr fun i hi hi' => by
    rw [mem_rows] at hi hi'; exact h (Fin.ext (by omega))
theorem cols_disjoint (p p' : Dev nD) (h : p ≠ p') : Disjoint (colsM p).view.set (colsM p').view.set :=
  Finset.disjoint_left.mpr fun i hi hi' => by
    rw [mem_cols] at hi hi'; exact h (Fin.ext (by omega))
theorem rows_cover (i : S4096x128.Idx) : ∃ p, i ∈ (rowsM p).view.set := by
  have hi : (i 0).val < 4096 := (i 0).isLt
  refine ⟨⟨(i 0).val / 128, by simp only [nD]; omega⟩, (mem_rows _ i).mpr ?_⟩
  constructor <;> dsimp only <;> omega
theorem cols_cover (i : S128x4096.Idx) : ∃ p, i ∈ (colsM p).view.set := by
  have hi : (i 1).val < 4096 := (i 1).isLt
  refine ⟨⟨(i 1).val / 128, by simp only [nD]; omega⟩, (mem_cols _ i).mpr ?_⟩
  constructor <;> dsimp only <;> omega

/-- Row block `p` of device `c`'s input, at the contents `f`. -/
abbrev inBlk (c p : Dev nD) (f : Inp F) : sProp 𝕄 := (rowsM p).view.loc (c : Thread nD τ) ↦[(rowsM p).view.set]{fullShare} f
/-- Column block `p` of device `c`'s output, at the contents `f`. -/
abbrev outBlk (c p : Dev nD) (f : Out F) : sProp 𝕄 := (colsM p).view.loc (c : Thread nD τ) ↦[(colsM p).view.set]{fullShare} f

abbrev inAll (c : Dev nD) (f : Inp F) : sProp 𝕄 := ((c : Thread nD τ).loc cc0_stg0_0) ↦{fullShare} f
abbrev outAll (c : Dev nD) (f : Out F) : sProp 𝕄 := ((c : Thread nD τ).loc cc0_stg1_0) ↦{fullShare} f

theorem inAll_blocks (c : Dev nD) (f : Inp F) : (inAll c f : sProp 𝕄) = bigSep Finset.univ fun p => inBlk c p f :=
  Ring.pointsTo_blocks (ℓ := (c : Thread nD τ).loc cc0_stg0_0) (fun p => (rowsM p).view.set) rows_disjoint
    (Finset.eq_univ_iff_forall.mpr fun i => (rows_cover i).elim fun p h => Finset.mem_biUnion.mpr ⟨p, Finset.mem_univ _, h⟩) f
theorem outAll_blocks (c : Dev nD) (f : Out F) : (outAll c f : sProp 𝕄) = bigSep Finset.univ fun p => outBlk c p f :=
  Ring.pointsTo_blocks (ℓ := (c : Thread nD τ).loc cc0_stg1_0) (fun p => (colsM p).view.set) cols_disjoint
    (Finset.eq_univ_iff_forall.mpr fun i => (cols_cover i).elim fun p h => Finset.mem_biUnion.mpr ⟨p, Finset.mem_univ _, h⟩) f

/-- What device `c`'s output ends as: column block `p` is row block `c` of device `p`'s input. -/
def gathered (X : Dev nD → Inp F) (c : Dev nD) : Out F := fun i =>
  X ⟨(i 1).val / 128, by have : (i 1).val < 4096 := (i 1).isLt; simp only [nD]; omega⟩
    (Fin.cons (⟨128 * c.val + (i 0).val, by have h1 : (i 0).val < 128 := (i 0).isLt; have h2 := c.isLt; show _ < 4096; simp only [nD] at h2; omega⟩ : Fin 4096)
      (Fin.cons (⟨(i 1).val % 128, Nat.mod_lt _ (by decide)⟩ : Fin 128) finZeroElim) : S4096x128.Idx)

/-! ## Cells -/

abbrev barS : Sem sig := barrier0
def sendS (e : Dev nD) : DmaSem sig := ⟨2 + e.val, by have := e.isLt; simp only [nD] at this; show 2 + e.val < 71; omega⟩
def recvS (j : Dev nD) : DmaSem sig := ⟨34 + j.val, by have := j.isLt; simp only [nD] at this; show 34 + j.val < 71; omega⟩
/-- The slot of the send array that the copy going `e` places further uses. -/
abbrev slot (e : ℕ) : Dev nD := onw 0 e

abbrev barCell (c : Dev nD) : GSem nD τ sig := ((c : Thread nD τ), .reg barS)
abbrev sendCell (c e : Dev nD) : GSem nD τ sig := ((c : Thread nD τ), .dma (sendS e))
abbrev recvCell (c j : Dev nD) : GSem nD τ sig := ((c : Thread nD τ), .dma (recvS j))

/-- The all-to-all's own semaphores. -/
abbrev osem : Dev nD ⊕ Dev nD → SemLoc sig := fun
  | .inl e => .dma (sendS e)
  | .inr j => .dma (recvS j)

theorem send_sem {off : Fin 1 → ℕ} {inb} {hs : S1.Squeezes S_} (e : ℕ) (he : e < 32) (h : off = ![e]) :
    ((cc0_scratch0.slice (Rect.unit (s := S32) off S1.size inb)).squeeze S_ hs).sem = sendS (slot e) := by
  subst h
  obtain ⟨e, rfl⟩ : ∃ e' : Fin 32, e = e'.val := ⟨⟨e, he⟩, rfl⟩
  have : ∀ e : Fin 32, ((cc0_scratch0.slice (Rect.unit (s := S32) ![e.val] S1.size (by revert e; decide +kernel))).squeeze S_ Gen.squeezes_S1_S_).sem = sendS (slot e.val) := by
    decide +kernel
  exact this e
theorem recv_sem {off : Fin 1 → ℕ} {inb} {hs : S1.Squeezes S_} (j : Dev nD) (h : off = ![j.val]) :
    ((cc0_scratch1.slice (Rect.unit (s := S32) off S1.size inb)).squeeze S_ hs).sem = recvS j := by
  subst h
  have : ∀ e : Fin 32, ((cc0_scratch1.slice (Rect.unit (s := S32) ![e.val] S1.size (by revert e; decide +kernel))).squeeze S_ Gen.squeezes_S1_S_).sem = recvS e := by
    decide +kernel
  exact this j

/-- The units one block's copy adds to a semaphore. -/
abbrev N : ℕ := (rowsM 0).view.dmaCredit
theorem N_pos : 0 < N := View.dmaCredit_pos _ (by decide)

/-! ## The schedule -/

section Sched

variable (X : Dev nD → Inp F)

/-- Paid to device `p`'s barrier cell by device `s`: the right to fill column block `p` of `s`'s output, and that the cell
    on which `s` awaits `p`'s copy is at its start. -/
def barPay (p s : Dev nD) : sProp 𝕄 := iprop((∃ f : Out F, outBlk s p f) ∗ reached ER (recvCell s p) 0)
/-- Paid to device `c`'s receive cell `j` by device `j`'s copy: column block `j` of `c`'s output, filled. -/
def recvPay (c j : Dev nD) : sProp 𝕄 := outBlk c j (gathered X c)
/-- Paid to the send cell by the device's own copy going `e` places further: the row block that was sent. -/
def sendPay (c e : Dev nD) : sProp 𝕄 := inBlk c (onw c e.val) (X c)

/-- The send slot, the receive slot a DMA semaphore is. -/
def sendIx (s : SemLoc sig) : Option (Dev nD) := match s with
  | .dma q => if h : 2 ≤ q.val ∧ q.val < 34 then some ⟨q.val - 2, by simp only [nD]; omega⟩ else none
  | _ => none
def recvIx (s : SemLoc sig) : Option (Dev nD) := match s with
  | .dma q => if h : 34 ≤ q.val ∧ q.val < 66 then some ⟨q.val - 34, by simp only [nD]; omega⟩ else none
  | _ => none

theorem sendIx_send : ∀ e : Dev nD, sendIx (.dma (sendS e)) = some e := by decide +kernel
theorem sendIx_recv : ∀ e : Dev nD, sendIx (.dma (recvS e)) = none := by decide +kernel
theorem recvIx_recv : ∀ e : Dev nD, recvIx (.dma (recvS e)) = some e := by decide +kernel
theorem recvIx_send : ∀ e : Dev nD, recvIx (.dma (sendS e)) = none := by decide +kernel

/-- One round. A barrier cell has a duty of every other device; the receive cell `j` of `c` one of `j`, if `j` is not `c`;
    the send cell `e` one of the device itself, if `e` is not 0. -/
def rd : Rounds.Schedule (GSem nD τ sig) (Dev nD) 𝕄 where
  duties g r := if r = 0 ∧ g.1.2 = .tc then
      (if g.2 = .reg barS then Finset.univ.erase g.1.1
      else match recvIx g.2 with
        | some j => if j = g.1.1 then ∅ else {j}
        | none => match sendIx g.2 with
          | some e => if e = 0 then ∅ else {g.1.1}
          | none => ∅)
    else ∅
  unitless _ := False
  amount g _ _ := if g.2 = .reg barS then 1 else N
  payload g _ d := if g.2 = .reg barS then barPay g.1.1 d
    else match recvIx g.2 with
      | some j => recvPay X g.1.1 j
      | none => match sendIx g.2 with
        | some e => sendPay X g.1.1 e
        | none => iprop(emp)
  amount_pos g _ _ _ := by
    by_cases h : g.2 = .reg barS
    · rw [if_pos h]; exact Nat.one_pos
    · rw [if_neg h]; exact N_pos

instance rd_payload_storable (g : GSem nD τ sig) (r : ℕ) (d : Dev nD) :
    BI.Storable (upEmb : UEmb _ 𝕄) ((rd (F := F) X).payload g r d) := by
  dsimp only [rd]
  split
  · unfold barPay; infer_instance
  · split
    · unfold recvPay; infer_instance
    · split
      · unfold sendPay; infer_instance
      · infer_instance

theorem dma_ne_bar (s : DmaSem sig) : (SemLoc.dma s : SemLoc sig) ≠ .reg barS := fun h => by cases h

theorem duties_bar (c : Dev nD) : (rd (F := F) X).duties (barCell c) 0 = Finset.univ.erase c := by
  dsimp only [rd]; rw [if_pos ⟨rfl, rfl⟩, if_pos rfl]
theorem duties_recv (c j : Dev nD) : (rd (F := F) X).duties (recvCell c j) 0 = if j = c then ∅ else {j} := by
  dsimp only [rd]; rw [if_pos ⟨rfl, rfl⟩, if_neg (dma_ne_bar _), recvIx_recv]
theorem duties_send (c e : Dev nD) : (rd (F := F) X).duties (sendCell c e) 0 = if e = 0 then ∅ else {c} := by
  dsimp only [rd]; rw [if_pos ⟨rfl, rfl⟩, if_neg (dma_ne_bar _), recvIx_send, sendIx_send]
theorem duties_later (g : GSem nD τ sig) : ∀ r, 1 ≤ r → (rd (F := F) X).duties g r = ∅ :=
  fun r hr => by dsimp only [rd]; rw [if_neg (fun h => by omega)]

theorem amount_bar (c d : Dev nD) : (rd (F := F) X).amount (barCell c) 0 d = 1 := by dsimp only [rd]; exact if_pos rfl
theorem amount_dma (c d : Dev nD) (s : DmaSem sig) : (rd (F := F) X).amount ((c : Thread nD τ), .dma s) 0 d = N := by
  dsimp only [rd]; exact if_neg (dma_ne_bar _)

theorem payload_bar (c d : Dev nD) : (rd (F := F) X).payload (barCell c) 0 d = barPay c d := by dsimp only [rd]; exact if_pos rfl
theorem payload_recv (c j d : Dev nD) : (rd (F := F) X).payload (recvCell c j) 0 d = recvPay X c j := by
  dsimp only [rd]; rw [if_neg (dma_ne_bar _), recvIx_recv]
theorem payload_send (c e d : Dev nD) : (rd (F := F) X).payload (sendCell c e) 0 d = sendPay X c e := by
  dsimp only [rd]; rw [if_neg (dma_ne_bar _), recvIx_send, sendIx_send]

theorem expect_bar (c : Dev nD) : (rd (F := F) X).expect (barCell c) 0 = 31 := by
  unfold Schedule.expect Schedule.amountOf
  rw [duties_bar, Finset.sum_congr rfl fun d _ => amount_bar X c d, Finset.sum_const, Finset.card_erase_of_mem (Finset.mem_univ _)]
  rfl
theorem expect_recv (c j : Dev nD) (h : j ≠ c) : (rd (F := F) X).expect (recvCell c j) 0 = N := by
  unfold Schedule.expect Schedule.amountOf; rw [duties_recv, if_neg h, Finset.sum_singleton, amount_dma]
theorem expect_send (c e : Dev nD) (h : e ≠ 0) : (rd (F := F) X).expect (sendCell c e) 0 = N := by
  unfold Schedule.expect Schedule.amountOf; rw [duties_send, if_neg h, Finset.sum_singleton, amount_dma]

theorem rest_bar (c : Dev nD) : bigSep ((rd (F := F) X).duties (barCell c) 0 \ ∅) (fun d => (rd (F := F) X).payload (barCell c) 0 d)
    = bigSep (Finset.Ico 1 32) fun e => barPay c (onw c e) := by
  rw [Finset.sdiff_empty, duties_bar, ← others_to c fun d => barPay c d]
  exact bigSep_congr fun d _ => payload_bar X c d
theorem rest_recv (c j : Dev nD) (h : j ≠ c) : bigSep ((rd (F := F) X).duties (recvCell c j) 0 \ ∅) (fun d => (rd (F := F) X).payload (recvCell c j) 0 d)
    = recvPay X c j := by
  rw [Finset.sdiff_empty, duties_recv, if_neg h, bigSep_singleton, payload_recv]
theorem rest_send (c e : Dev nD) (h : e ≠ 0) : bigSep ((rd (F := F) X).duties (sendCell c e) 0 \ ∅) (fun d => (rd (F := F) X).payload (sendCell c e) 0 d)
    = sendPay X c e := by
  rw [Finset.sdiff_empty, duties_send, if_neg h, bigSep_singleton, payload_send]

end Sched

/-! ## What each device owes at the start; the levels -/

/-- The units of the copies device `c` still owes before it has issued that going `d` places further. -/
def owedCopies (c : Dev nD) (d : ℕ) : CellTallies nD τ sig Unit := ∑ e ∈ Finset.Ico d 32, tallyAt (recvCell (onw c e) c) () N
/-- The signals it still owes. -/
def owedSignals (c : Dev nD) (d : ℕ) : CellTallies nD τ sig Unit := ∑ e ∈ Finset.Ico d 32, tallyAt (barCell (onw c e)) () 1

def O₀ (c : Dev nD) : CellTallies nD τ sig Unit := owedCopies c 1 + owedSignals c 1

theorem owedCopies_head (c : Dev nD) {d : ℕ} (hd : d < 32) : owedCopies c d = owedCopies c (d + 1) + tallyAt (recvCell (onw c d) c) () N := by
  unfold owedCopies
  rw [show Finset.Ico d 32 = insert d (Finset.Ico (d + 1) 32) from by ext x; simp only [Finset.mem_Ico, Finset.mem_insert]; omega,
    Finset.sum_insert (by simp), add_comm]
theorem owedSignals_head (c : Dev nD) {d : ℕ} (hd : d < 32) : owedSignals c d = owedSignals c (d + 1) + tallyAt (barCell (onw c d)) () 1 := by
  unfold owedSignals
  rw [show Finset.Ico d 32 = insert d (Finset.Ico (d + 1) 32) from by ext x; simp only [Finset.mem_Ico, Finset.mem_insert]; omega,
    Finset.sum_insert (by simp), add_comm]
theorem owedCopies_end (c : Dev nD) : owedCopies c 32 = 0 := by unfold owedCopies; rw [Finset.Ico_self, Finset.sum_empty]
theorem owedSignals_end (c : Dev nD) : owedSignals c 32 = 0 := by unfold owedSignals; rw [Finset.Ico_self, Finset.sum_empty]

def L (g : GSem nD τ sig) : Finset Unit := if g.1.2 = .tc then {()} else ∅
/-- Barrier cells at 1, receive cells at 2, every other at 0. -/
def lv (g : GSem nD τ sig) (_ : Unit) : ℕ := if g.2 = .reg barS then 1 else if (recvIx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c j : Dev nD) (u : Unit) : lv (recvCell c j) u = 2 := by
  unfold lv; rw [if_neg (dma_ne_bar _), recvIx_recv]; rfl

/-- Where a sum of tallies is positive one of them is. -/
theorem pos_of_sum {ι : Type} {s : Finset ι} {t : ι → CellTallies nD τ sig Unit} {g : GSem nD τ sig} {u : Unit}
    (h : 0 < (∑ e ∈ s, t e) g u) : ∃ e ∈ s, 0 < t e g u := by
  classical
  induction s using Finset.induction_on with
  | empty => rw [Finset.sum_empty] at h; exact absurd h (Nat.lt_irrefl 0)
  | insert a s ha ih =>
    rw [Finset.sum_insert ha, Pi.add_apply, Finsupp.add_apply] at h
    rcases Nat.eq_zero_or_pos (t a g u) with h0 | h0
    · obtain ⟨e, he, hp⟩ := ih (by omega)
      exact ⟨e, Finset.mem_insert_of_mem he, hp⟩
    · exact ⟨a, Finset.mem_insert_self .., h0⟩

theorem eq_of_tally_pos {g g' : GSem nD τ sig} {k : ℕ} {u : Unit} (h : 0 < (tallyAt g' () k : CellTallies nD τ sig Unit) g u) : g = g' := by
  rw [tallyAt_apply] at h
  by_contra hne
  rw [if_neg (fun hh => hne hh.1)] at h; exact absurd h (Nat.lt_irrefl 0)

theorem cell_of_copies {c : Dev nD} {d : ℕ} {g : GSem nD τ sig} {u : Unit} (h : 0 < owedCopies c d g u) : ∃ p, g = recvCell p c := by
  obtain ⟨e, -, he⟩ := pos_of_sum h; exact ⟨_, eq_of_tally_pos he⟩
theorem cell_of_signals {c : Dev nD} {d : ℕ} {g : GSem nD τ sig} {u : Unit} (h : 0 < owedSignals c d g u) : ∃ p, g = barCell p := by
  obtain ⟨e, -, he⟩ := pos_of_sum h; exact ⟨_, eq_of_tally_pos he⟩

/-- Every cell a device owes at the start is of a TensorCore and stands above level 0. -/
theorem owed_level {c : Dev nD} {g : GSem nD τ sig} {u : Unit} (h : 0 < O₀ c g u) : u ∈ L g ∧ 0 < lv g u := by
  unfold O₀ at h; rw [Pi.add_apply, Finsupp.add_apply] at h
  rcases Nat.eq_zero_or_pos (owedCopies c 1 g u) with h0 | h0
  · obtain ⟨p, rfl⟩ := cell_of_signals (by omega : 0 < owedSignals c 1 g u)
    exact ⟨by rw [L_tc]; exact Finset.mem_singleton_self _, by rw [lv_bar]; decide⟩
  · obtain ⟨p, rfl⟩ := cell_of_copies h0
    exact ⟨by rw [L_tc]; exact Finset.mem_singleton_self _, by rw [lv_recv]; decide⟩

/-- A device may await its barrier while it owes copies only. -/
theorem mayWait_bar (c : Dev nD) :
    (levAts L lv : sProp 𝕄) ⊢ MayWait (c : Thread nD τ) (.reg barS) () (owedCopies c 1) :=
  MayOwe.of_cut (L := L) (lev := lv) 1 (fun p hp => by rw [Finset.mem_singleton.mp hp, L_tc]; exact Finset.mem_singleton_self _)
    (fun g u hg => by obtain ⟨p, rfl⟩ := cell_of_copies hg; rw [L_tc]; exact Finset.mem_singleton_self _)
    (fun p hp => by rw [Finset.mem_singleton.mp hp]; dsimp only [lv]; rw [if_pos rfl])
    (fun g u hg => by obtain ⟨p, rfl⟩ := cell_of_copies hg; rw [lv_recv]; decide)

/-! ## The devices' shares of the protocol's ghost state -/

/-- Every cell of the protocol. -/
abbrev Ix : Type := Dev nD × (Unit ⊕ (Dev nD ⊕ Dev nD))
abbrev cell : Ix → GSem nD τ sig := fun
  | (c, .inl ()) => barCell c
  | (c, .inr k) => ((c : Thread nD τ), osem k)

section Ghost

variable (X : Dev nD → Inp F) (K : GSem nD τ sig → ℕ)

/-- What every device knows: every cell's invariant, every barrier cell at its start, the levels. -/
def known : sProp 𝕄 :=
  iprop((bigSep Finset.univ fun i : Ix => cellInv ER (rd X) (K (cell i)) (cell i)) ∗ (bigSep Finset.univ fun c : Dev nD => reached ER (barCell c) 0))

instance known_persistent : BI.Persistent (known X K) := by unfold known; infer_instance

theorem known_inv (i : Ix) : known X K ⊢ cellInv ER (rd X) (K (cell i)) (cell i) := by
  unfold known; exact (Idealize.SL.BI.sep_and.trans Idealize.SL.BI.and_elimL).trans (bigSep_elim (Φ := fun i : Ix => cellInv ER (rd X) (K (cell i)) (cell i)) (Finset.mem_univ i))
theorem known_bar (c : Dev nD) : known X K ⊢ cellInv ER (rd X) (K (barCell c)) (barCell c) := known_inv X K (c, .inl ())
theorem known_send (c e : Dev nD) : known X K ⊢ cellInv ER (rd X) (K (sendCell c e)) (sendCell c e) := known_inv X K (c, .inr (.inl e))
theorem known_recv (c j : Dev nD) : known X K ⊢ cellInv ER (rd X) (K (recvCell c j)) (recvCell c j) := known_inv X K (c, .inr (.inr j))
theorem known_start (c : Dev nD) : known X K ⊢ (reached ER (barCell c) 0 : sProp 𝕄) := by
  unfold known; exact (Idealize.SL.BI.sep_and.trans Idealize.SL.BI.and_elimR).trans (bigSep_elim (Φ := fun c : Dev nD => reached ER (barCell c) 0) (Finset.mem_univ c))

/-- The duty tokens of device `c`: of every barrier cell, of every device's receive cell `c`, of its own send cells. -/
def toks (c : Dev nD) : sProp 𝕄 :=
  iprop((bigSep Finset.univ fun p : Dev nD => dutyTok ER (barCell p) 0 c) ∗ (bigSep Finset.univ fun p : Dev nD => dutyTok ER (recvCell p c) 0 c)
    ∗ bigSep Finset.univ fun e : Dev nD => dutyTok ER (sendCell c e) 0 c)

/-- The credit a device waits with. -/
def creds (c : Dev nD) : sProp 𝕄 :=
  iprop(cred (tallyAt (barCell c) () 31) ∗ bigSep (Finset.Ico 1 32) fun e => cred (tallyAt (recvCell c (fr c e)) () N))

end Ghost

end Cert.KernelIdeal.Exchange
-- ==== Proof.ExchangeSteps.lean ====
/-
  One step of the all-to-all at a time: a signal, the wait at the barrier, the own block's copy, a send, a pair of waits.
  Each lemma takes what is known, what of its phase is still to do, and any rest, and asks the continuation of one thing
  less to do.
-/
module

public import proofs.«01_k».proof.Proof.ExchangeSetup
public import Idealize.ShloMosaic.Lib.Pipeline.Value
public import Idealize.ShloMosaic.Lib.ViewIndex

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Inp F) (K : GSem nD τ sig → ℕ) (c : Dev nD)

/-! ## Contents -/

/-- Row block `p` of device `s`'s input, written over column block `s` of an output, is what device `p` gathers there. -/
theorem landed (s p : Dev nD) (fd : Out F) (i : S128x4096.Idx) (hi : i ∈ (colsM s).view.set) :
    (colsM s).view.write (Elt F) fd ((rowsM p).view.read (Elt F) (X s)) Finset.univ i = gathered X p i := by
  obtain ⟨x, rfl⟩ := View.exists_of_mem_set_slice hi
  refine ((colsM s).view.write_emb_of_mem fd _ (Finset.mem_univ x)).trans ?_
  show X s ((rowsR p).emb x) = gathered X p ((colsR s).emb x)
  have h0 : ((colsR s).emb x 0).val = (x 0).val := by
    refine (ValueKit.rect_emb_unit_val _ _ _ _ _).trans (Nat.zero_add _)
  have h1 : ((colsR s).emb x 1).val = 128 * s.val + (x 1).val := ValueKit.rect_emb_unit_val _ _ _ _ _
  have g0 : ((rowsR p).emb x 0).val = 128 * p.val + (x 0).val := ValueKit.rect_emb_unit_val _ _ _ _ _
  have g1 : ((rowsR p).emb x 1).val = (x 1).val := (ValueKit.rect_emb_unit_val _ _ _ _ _).trans (Nat.zero_add _)
  have hx : (x 1).val < 128 := (x 1).isLt
  unfold gathered
  have hs : (⟨((colsR s).emb x 1).val / 128, by rw [h1]; have := s.isLt; simp only [nD] at *; omega⟩ : Dev nD) = s := Fin.ext (by dsimp only; rw [h1]; omega)
  rw [hs]
  refine congrArg (X s) (funext fun a => ?_)
  refine Fin.cases ?_ (fun a => Fin.cases ?_ (fun a => a.elim0) a) a
  · refine Fin.ext (g0.trans ?_)
    show _ = 128 * p.val + ((colsR s).emb x 0).val
    rw [h0]
  · refine Fin.ext (g1.trans ?_)
    show _ = ((colsR s).emb x 1).val % 128
    rw [h1]; omega

theorem landed_blk (s p : Dev nD) (fd : Out F) :
    ((colsM s).view.loc (p : Thread nD τ) ↦[(colsM s).view.set]{fullShare} ((colsM s).view.write (Elt F) fd ((rowsM p).view.read (Elt F) (X s)) Finset.univ))
      = (outBlk p s (gathered X p) : sProp 𝕄) :=
  pointsTo_congr fun i hi => landed X s p fd i hi

/-! ## What is known throughout -/

/-- That the device's own receive and send cells are at their start. -/
def here : sProp 𝕄 :=
  iprop((bigSep Finset.univ fun j : Dev nD => reached ER (recvCell c j) 0) ∗ bigSep Finset.univ fun e : Dev nD => reached ER (sendCell c e) 0)
instance here_persistent : BI.Persistent (here (F := F) c) := by unfold here; infer_instance
theorem here_recv (j : Dev nD) : here (F := F) c ⊢ reached ER (recvCell c j) 0 := by
  unfold here; exact (Idealize.SL.BI.sep_and.trans Idealize.SL.BI.and_elimL).trans (bigSep_elim (Φ := fun j : Dev nD => reached ER (recvCell c j) 0) (Finset.mem_univ j))
theorem here_send (e : Dev nD) : here (F := F) c ⊢ reached ER (sendCell c e) 0 := by
  unfold here; exact (Idealize.SL.BI.sep_and.trans Idealize.SL.BI.and_elimR).trans (bigSep_elim (Φ := fun e : Dev nD => reached ER (sendCell c e) 0) (Finset.mem_univ e))

/-- What device `c` knows while the all-to-all runs. -/
def ctx : sProp 𝕄 := iprop(known X K ∗ here c ∗ levAts L lv)
instance ctx_persistent : BI.Persistent (ctx X K c) := by unfold ctx; infer_instance

theorem ctx_split : ctx X K c ⊢ iprop(known X K ∗ here c ∗ levAts L lv) := by unfold ctx; exact .rfl

/-! ## The signals -/

/-- Before the signal to the device `d` places further. -/
def toSignal (d : ℕ) : sProp 𝕄 :=
  iprop((bigSep (Finset.Ico d 32) fun e => iprop(dutyTok ER (barCell (onw c e)) 0 c ∗ ∃ f : Out F, outBlk c (onw c e) f))
    ∗ ∃ W, owes (c : Thread nD τ) (owedCopies c 1 + owedSignals c d) W)

theorem step_signal {d : ℕ} (h1 : 1 ≤ d) (hd : d < 32) {n : Dev nD} (hn : n = onw c d) {s : Sem sig} (hs : s = barS)
    {k : PUnit → Prog (TpuEff nD τ sig (Elt F) Λ₀ .tc) PUnit} {Q : PUnit → sProp 𝕄} {R : sProp 𝕄}
    (h : iprop(ctx X K c ∗ toSignal c (d + 1) ∗ R) ⊢ wp frame (wpE (defs₀ (F := F)) 𝒱₀ (c : Thread nD τ) none) Set.univ (k ⟨⟩) Q) :
    iprop(ctx X K c ∗ toSignal c d ∗ R) ⊢ wp frame (wpE (defs₀ (F := F)) 𝒱₀ (c : Thread nD τ) none) Set.univ (.op (.semSignal (Dev.tc n) s 1) k) Q := by
  subst hn hs
  unfold toSignal at h ⊢
  rw [Ico_head hd]
  iintro ⟨#Hc, ⟨⟨⟨Ht, Hb⟩, Hs⟩, %W, HO⟩, HR⟩
  ihave #Hc' := (ctx_split X K c) $$ Hc
  icases Hc' with ⟨#Hk, #Hh, -⟩
  iapply (Rounds.wp_signal 𝒱₀ ER (rd X) (c : Thread nD τ) none (dst := (onw c d : Thread nD τ)) (sem := barS) (r := 0) (d := c) (κ := K (barCell (onw c d)))
      (by rw [duties_bar]; exact Finset.mem_erase.mpr ⟨(to_ne c h1 hd).symm, Finset.mem_univ _⟩) (amount_bar X (onw c d) c) ()
      (O₀ := owedCopies c 1 + owedSignals c d) (owedCopies c 1 + owedSignals c (d + 1)) (by rw [owedSignals_head c hd, add_assoc])) $$ [HO Ht Hb]
  · isplitr; · iapply (known_bar X K (onw c d)) $$ Hk
    isplitl [HO]; · iexact HO
    isplitl [Ht]; · iexact Ht
    isplitl [Hb]
    · rw [payload_bar]; unfold barPay
      isplitl [Hb]; · iexact Hb
      iapply (here_recv c (onw c d)) $$ Hh
    · iapply (known_start X K (onw c d)) $$ Hk
  iintro HO
  iapply h
  isplitr; · iexact Hc
  isplitr [HR]
  · isplitl [Hs]; · iexact Hs
    iexists W; iexact HO
  · iexact HR

/-! ## The wait at the barrier -/

theorem step_await {s : Sem sig} (hs : s = barS) {k : PUnit → Prog (TpuEff nD τ sig (Elt F) Λ₀ .tc) PUnit} {Q : PUnit → sProp 𝕄} {R : sProp 𝕄}
    (h : iprop(ctx X K c ∗ (atPos ER (barCell c) (0 + 1) ∅ 0 ∗ (bigSep (Finset.Ico 1 32) fun e => barPay c (onw c e))
        ∗ ∃ W, owes (c : Thread nD τ) (owedCopies c 1) W) ∗ R) ⊢ wp frame (wpE (defs₀ (F := F)) 𝒱₀ (c : Thread nD τ) none) Set.univ (k ⟨⟩) Q) :
    iprop(ctx X K c ∗ (cred (tallyAt (barCell c) () 31) ∗ atPos ER (barCell c) 0 ∅ 0 ∗ toSignal c 32) ∗ R) ⊢ wp frame (wpE (defs₀ (F := F)) 𝒱₀ (c : Thread nD τ) none) Set.univ (.op (.semWait s 31) k) Q := by
  subst hs
  unfold toSignal
  rw [owedSignals_end, add_zero]
  iintro ⟨#Hc, ⟨Hcr, Hat, -, %W, HO⟩, HR⟩
  ihave #Hc' := (ctx_split X K c) $$ Hc
  icases Hc' with ⟨#Hk, #Hh, #Hl⟩
  iapply (Rounds.wp_wait_rest_token 𝒱₀ ER (rd X) (c : Thread nD τ) none (κ := K (barCell c))
      (wpE_semWait_eq 𝒱₀ (c : Thread nD τ) none Set.univ) (Set.mem_univ _) () (O := owedCopies c 1) (W := W) (R := 0) (m := 0) (T := ∅)
      ((Nat.zero_add 31).trans (expect_bar X c).symm)) $$ [Hcr HO Hat]
  · isplitr; · iapply (known_bar X K c) $$ Hk
    isplitl [Hcr]; · iexact Hcr
    isplitl [HO]; · iexact HO
    isplitr; · iapply (mayWait_bar c); iexact Hl
    iexact Hat
  iintro ⟨HO, Hat, -, Hpay⟩
  ihave Hp := (Entails.of_eq (rest_bar X c)) $$ Hpay
  iapply h
  isplitr; · iexact Hc
  isplitr [HR]
  · isplitl [Hat]; · iexact Hat
    isplitl [Hp]; · iexact Hp
    iexists (insert (SemLoc.reg barS, ()) W); iexact HO
  · iexact HR

/-! ## The own block -/

theorem step_own {o1 : Fin 2 → ℕ} (ho1 : o1 = ![128 * c.val, 0]) {i1} {o2 : Fin 2 → ℕ} (ho2 : o2 = ![0, 128 * c.val]) {i2}
    {hl1 : xM.view.LoadsAt (Rect.unit (s := S4096x128) o1 S128x128.size i1).toLoadRect} {hl2 : yM.view.LoadsAt (Rect.unit (s := S128x4096) o2 S128x128.size i2).toLoadRect}
    {hx : (yM.access (Rect.unit (s := S128x4096) o2 S128x128.size i2)).Stores Finset.univ} {hm}
    {k : PUnit → Prog (TpuEff nD τ sig (Elt F) Λ₀ .tc) PUnit} {Q : PUnit → sProp 𝕄} {R : sProp 𝕄}
    (h : iprop(ctx X K c ∗ (inBlk c c (X c) ∗ outBlk c c (gathered X c)) ∗ R) ⊢ wp frame (wpE (defs₀ (F := F)) 𝒱₀ (c : Thread nD τ) none) Set.univ (k ⟨⟩) Q) :
    iprop(ctx X K c ∗ (inBlk c c (X c) ∗ ∃ f : Out F, outBlk c c f) ∗ R)
      ⊢ wp frame (wpE (defs₀ (F := F)) 𝒱₀ (c : Thread nD τ) none) Set.univ (.op (.load xM (Rect.unit (s := S4096x128) o1 S128x128.size i1).toLoadRect hl1) fun v =>
          .op (.load yM (Rect.unit (s := S128x4096) o2 S128x128.size i2).toLoadRect hl2) fun _ =>
          .op (.store yM (Rect.unit (s := S128x4096) o2 S128x128.size i2) (Gen.k0_pay1 v) Finset.univ hx hm) k) Q := by
  subst ho1 ho2
  iintro ⟨#Hc, ⟨Hx, %f, Hy⟩, HR⟩
  iapply (wp_load_rect 𝒱₀ (c : Thread nD τ) none Set.univ (m := xM) (r := rowsR c) (S := (rowsM c).view.set) (f := X c) (Finset.Subset.refl _)) $$ Hx
  iintro Hx
  iapply (wp_load_rect 𝒱₀ (c : Thread nD τ) none Set.univ (m := yM) (r := colsR c) (S := (colsM c).view.set) (f := f) (Finset.Subset.refl _)) $$ Hy
  iintro Hy
  iapply (wp_store 𝒱₀ (c : Thread nD τ) none Set.univ (m := yM) (r := colsR c) (S := (colsM c).view.set) (f := f) (by rw [View.setOn_univ])) $$ Hy
  iintro Hy
  ihave Hy' := (show _ ⊢ outBlk c c (gathered X c) from by
    unfold Gen.k0_pay1
    rw [shapeCast_self]
    exact Entails.of_eq (landed_blk X c c f)) $$ Hy
  iapply h
  isplitr; · iexact Hc
  isplitr [HR]
  · isplitl [Hx]; · iexact Hx
    iexact Hy'
  · iexact HR

/-! ## The sends -/

/-- Before the copy going `d` places further is issued. -/
def toSend (d : ℕ) : sProp 𝕄 :=
  iprop((bigSep (Finset.Ico d 32) fun e => iprop((inBlk c (onw c e) (X c) ∗ barPay c (onw c e))
      ∗ (dutyTok ER (sendCell c (slot e)) 0 c ∗ dutyTok ER (recvCell (onw c e) c) 0 c)))
    ∗ (bigSep (Finset.Ico 1 d) fun e => cred (tallyAt (sendCell c (slot e)) () N))
    ∗ ∃ W, owes (c : Thread nD τ) (owedCopies c d) W)

theorem slot_val {e : ℕ} (he : e < 32) : (slot e).val = e := by
  show (0 + e) % 32 = e; omega
theorem slot_ne {e : ℕ} (h1 : 1 ≤ e) (he : e < 32) : slot e ≠ 0 := fun h => by
  have := congrArg Fin.val h; rw [slot_val he] at this; simp at this; omega

theorem step_send {d : ℕ} (h1 : 1 ≤ d) (hd : d < 32) {n : Dev nD} (hn : n = onw c d)
    {o5 : Fin 2 → ℕ} (ho5 : o5 = ![128 * (onw c d).val, 0]) {i5} {o4 : Fin 2 → ℕ} (ho4 : o4 = ![0, 128 * c.val]) {i4}
    {sS sR : DmaSem sig} (hsS : sS = sendS (slot d)) (hsR : sR = recvS c) {t5 t4 hsc w1 w2 hty}
    {k : PUnit → Prog (TpuEff nD τ sig (Elt F) Λ₀ .tc) PUnit} {Q : PUnit → sProp 𝕄} {R : sProp 𝕄}
    (h : iprop(ctx X K c ∗ toSend X c (d + 1) ∗ R) ⊢ wp frame (wpE (defs₀ (F := F)) 𝒱₀ (c : Thread nD τ) none) Set.univ (k ⟨⟩) Q) :
    iprop(ctx X K c ∗ toSend X c d ∗ R)
      ⊢ wp frame (wpE (defs₀ (F := F)) 𝒱₀ (c : Thread nD τ) none) Set.univ (.op (.enqueueDma (xM.slice (Rect.unit (s := S4096x128) o5 S128x128.size i5) t5)
          (.remote (Dev.tc n) (yM.slice (Rect.unit (s := S128x4096) o4 S128x128.size i4) t4) (.dma sS) hsc) (.dma sR) w1 w2 hty) k) Q := by
  subst hn ho5 ho4 hsS hsR
  unfold toSend at h ⊢
  rw [Ico_head hd]
  rw [Ico_last h1] at h
  unfold barPay at h ⊢
  iintro ⟨#Hc, ⟨⟨⟨⟨Hx, ⟨%fd, Hy⟩, #Hr⟩, HtS, HtR⟩, Hs⟩, Hcs, %W, HO⟩, HR⟩
  ihave #Hc' := (ctx_split X K c) $$ Hc
  icases Hc' with ⟨#Hk, #Hh, -⟩
  iapply (Rounds.wp_send_pointsTo 𝒱₀ ER (rd X) (c : Thread nD τ) none (c' := (onw c d : Thread nD τ)) (src := rowsM (onw c d)) (dst := colsM c)
      (sS := .dma (sendS (slot d))) (sem := .dma (recvS c)) (q := fullShare) (fs := X c) (κ₁ := K (sendCell c (slot d))) (κ₂ := K (recvCell (onw c d) c))
      (r₁ := 0) (r₂ := 0) (d₁ := c) (d₂ := c) (fd := fd)
      (by rw [duties_send, if_neg (slot_ne h1 hd)]; exact Finset.mem_singleton_self _)
      (by rw [duties_recv, if_neg (to_ne c h1 hd).symm]; exact Finset.mem_singleton_self _)
      () () N rfl (amount_dma X c c _) (amount_dma X (onw c d) c _) (owedCopies c (d + 1)) (owedCopies_head c hd) (W := W)
      (by rw [payload_send]; unfold sendPay; rw [slot_val hd])
      (by rw [payload_recv]; unfold recvPay; exact Entails.of_eq (landed_blk X c (onw c d) fd))) $$ [Hx Hy HO HtS HtR]
  · isplitr; · iapply (known_send X K c (slot d)) $$ Hk
    isplitr; · iapply (known_recv X K (onw c d) c) $$ Hk
    isplitl [Hx]; · iexact Hx
    isplitl [Hy]; · iexact Hy
    isplitl [HO]; · iexact HO
    isplitl [HtS]; · iexact HtS
    isplitr; · iapply (here_send c (slot d)) $$ Hh
    isplitl [HtR]; · iexact HtR
    iexact Hr
  iintro ⟨HcS, HO⟩
  iapply h
  isplitr; · iexact Hc
  isplitr [HR]
  · isplitl [Hs]; · iexact Hs
    isplitl [HcS Hcs]
    · isplitl [HcS] <;> iassumption
    iexists W; iexact HO
  · iexact HR

/-! ## The waits -/

/-- Before the wait for the copy going `d` places further and for that coming from `d` places back. -/
def toWait (d : ℕ) : sProp 𝕄 :=
  iprop((bigSep (Finset.Ico d 32) fun e => iprop((cred (tallyAt (sendCell c (slot e)) () N) ∗ cred (tallyAt (recvCell c (fr c e)) () N))
      ∗ (atPos ER (sendCell c (slot e)) 0 ∅ 0 ∗ atPos ER (recvCell c (fr c e)) 0 ∅ 0)))
    ∗ (bigSep (Finset.Ico 1 d) fun e => iprop((inBlk c (onw c e) (X c) ∗ outBlk c (fr c e) (gathered X c))
      ∗ (atPos ER (sendCell c (slot e)) (0 + 1) ∅ 0 ∗ atPos ER (recvCell c (fr c e)) (0 + 1) ∅ 0)))
    ∗ ∃ W, owes (c : Thread nD τ) (0 : CellTallies nD τ sig Unit) W)

theorem step_wait {d : ℕ} (h1 : 1 ≤ d) (hd : d < 32) {sS sR : DmaSem sig} (hsS : sS = sendS (slot d)) (hsR : sR = recvS (fr c d))
    {s1 s2 t1 t2 : Shape} {e1 e2 e3 e4 : EltTy} {src1 : Memref sig .tc .vmem s1 e1} {src2 : Memref sig .tc .vmem s2 e2}
    {dst1 : Memref sig .tc .vmem t1 e3} {dst2 : Memref sig .tc .vmem t2 e4} {w1 w2 w3 w4} (hN1 : dst1.view.dmaCredit = N) (hN2 : dst2.view.dmaCredit = N)
    {k : PUnit → Prog (TpuEff nD τ sig (Elt F) Λ₀ .tc) PUnit} {Q : PUnit → sProp 𝕄} {R : sProp 𝕄}
    (h : iprop(ctx X K c ∗ toWait X c (d + 1) ∗ R) ⊢ wp frame (wpE (defs₀ (F := F)) 𝒱₀ (c : Thread nD τ) none) Set.univ (k ⟨⟩) Q) :
    iprop(ctx X K c ∗ toWait X c d ∗ R)
      ⊢ wp frame (wpE (defs₀ (F := F)) 𝒱₀ (c : Thread nD τ) none) Set.univ (.op (.waitDma2 sS src1 dst1 w1 w2) fun _ => .op (.waitDma2 sR src2 dst2 w3 w4) k) Q := by
  subst hsS hsR
  unfold toWait at h ⊢
  rw [Ico_head hd]
  rw [Ico_last h1] at h
  iintro ⟨#Hc, ⟨⟨⟨⟨Hc1, Hc2⟩, Ha1, Ha2⟩, Hs⟩, Hds, %W, HO⟩, HR⟩
  ihave #Hc' := (ctx_split X K c) $$ Hc
  icases Hc' with ⟨#Hk, -, -⟩
  iapply (Rounds.wp_wait_rest_token 𝒱₀ ER (rd X) (c : Thread nD τ) none (κ := K (sendCell c (slot d)))
      (wpE_waitDma2_eq 𝒱₀ (c : Thread nD τ) none Set.univ (src := src1) (dst := dst1)) (Set.mem_univ _) () (O := 0) (W := W) (R := 0) (m := 0) (T := ∅)
      ((Nat.zero_add _).trans (hN1.trans (expect_send X c (slot d) (slot_ne h1 hd)).symm))) $$ [Hc1 HO Ha1]
  · isplitr; · iapply (known_send X K c (slot d)) $$ Hk
    isplitl [Hc1]; · rw [hN1]; iexact Hc1
    isplitl [HO]; · iexact HO
    isplitr; · rw [MayWait_zero]; iempintro
    iexact Ha1
  iintro ⟨HO, Ha1, -, Hp1⟩
  ihave Hx := (Entails.of_eq (rest_send X c (slot d) (slot_ne h1 hd))) $$ Hp1
  iapply (Rounds.wp_wait_rest_token 𝒱₀ ER (rd X) (c : Thread nD τ) none (κ := K (recvCell c (fr c d)))
      (wpE_waitDma2_eq 𝒱₀ (c : Thread nD τ) none Set.univ (src := src2) (dst := dst2)) (Set.mem_univ _) () (O := 0) (W := insert (SemLoc.dma (sendS (slot d)), ()) W) (R := 0) (m := 0) (T := ∅)
      ((Nat.zero_add _).trans (hN2.trans (expect_recv X c (fr c d) (fr_ne c h1 hd)).symm))) $$ [Hc2 HO Ha2]
  · isplitr; · iapply (known_recv X K c (fr c d)) $$ Hk
    isplitl [Hc2]; · rw [hN2]; iexact Hc2
    isplitl [HO]; · iexact HO
    isplitr; · rw [MayWait_zero]; iempintro
    iexact Ha2
  iintro ⟨HO, Ha2, -, Hp2⟩
  ihave Hy := (Entails.of_eq (rest_recv X c (fr c d) (fr_ne c h1 hd))) $$ Hp2
  unfold sendPay recvPay
  rw [slot_val hd]
  iapply h
  isplitr; · iexact Hc
  isplitr [HR]
  · isplitl [Hs]; · iexact Hs
    isplitr [HO]
    · isplitr [Hds]
      · isplitl [Hx Hy]
        · isplitl [Hx] <;> iassumption
        · isplitl [Ha1] <;> iassumption
      · iexact Hds
    · iexists _; iexact HO
  · iexact HR

end Cert.KernelIdeal.Exchange
-- ==== Proof.ExchangeBody.lean ====
/-
  The all-to-all's whole body on one device: the entry barrier, the own block, the 31 copies, the 62 waits.
-/
module

public import proofs.«01_k».proof.Proof.ExchangeSteps

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Inp F) (K : GSem nD τ sig → ℕ) (c : Dev nD)

/-! ## The printed offsets at step `d` -/

theorem send_rows {d : ℕ} (h1 : 1 ≤ d) (hd : d < 32) : k0_off5 c (BitVec.ofNat 32 d) = ![128 * (onw c d).val, 0] := by
  obtain ⟨r, rfl⟩ : ∃ r : Fin 31, d = 1 + r.val := ⟨⟨d - 1, by omega⟩, by dsimp only; omega⟩
  rw [Gen.k0_off5_eq]
  show ![128 * ((c.val + r.val + 1) % 32), 0] = ![128 * ((c.val + (1 + r.val)) % 32), 0]
  rw [add_comm 1 r.val, ← add_assoc]
theorem wait_slot {d : ℕ} (h1 : 1 ≤ d) (hd : d < 32) : k0_off6 c (BitVec.ofNat 32 d) = ![(fr c d).val] := by
  obtain ⟨r, rfl⟩ : ∃ r : Fin 31, d = 1 + r.val := ⟨⟨d - 1, by omega⟩, by dsimp only; omega⟩
  rw [Gen.k0_off6_eq]
  show ![(c.val + 31 - r.val) % 32] = ![(c.val + 32 - (1 + r.val)) % 32]
  rw [show c.val + 31 - r.val = c.val + 32 - (1 + r.val) by omega]

/-- Every block's copy counts the same. -/
theorem credit_blk (m : Memref sig .tc .vmem S128x128 .f32) : m.view.dmaCredit = N := rfl

/-! ## Before and after -/

/-- What the copies take besides what the barrier brings. -/
def forSends : sProp 𝕄 := bigSep (Finset.Ico 1 32) fun e =>
  iprop(inBlk c (onw c e) (X c) ∗ (dutyTok ER (sendCell c (slot e)) 0 c ∗ dutyTok ER (recvCell (onw c e) c) 0 c))
/-- What the waits take besides what the copies bring. -/
def forWaits : sProp 𝕄 := bigSep (Finset.Ico 1 32) fun e =>
  iprop(cred (tallyAt (recvCell c (fr c e)) () N) ∗ (atPos ER (sendCell c (slot e)) 0 ∅ 0 ∗ atPos ER (recvCell c (fr c e)) 0 ∅ 0))
/-- The positions of the two cells a device never uses: its send cell 0 and its receive cell of itself. -/
def spare : sProp 𝕄 := iprop(atPos ER (sendCell c 0) 0 ∅ 0 ∗ atPos ER (recvCell c c) 0 ∅ 0)
/-- What the body starts from. -/
def start : sProp 𝕄 :=
  iprop(toSignal c 1 ∗ ((cred (tallyAt (barCell c) () 31) ∗ atPos ER (barCell c) 0 ∅ 0)
    ∗ (inBlk c c (X c) ∗ ∃ f : Out F, outBlk c c f) ∗ forSends X c ∗ forWaits c ∗ spare c))
/-- What it ends with. -/
def ending : sProp 𝕄 :=
  iprop((bigSep (Finset.Ico 1 32) fun e => iprop((inBlk c (onw c e) (X c) ∗ outBlk c (fr c e) (gathered X c))
      ∗ (atPos ER (sendCell c (slot e)) (0 + 1) ∅ 0 ∗ atPos ER (recvCell c (fr c e)) (0 + 1) ∅ 0)))
    ∗ (inBlk c c (X c) ∗ outBlk c c (gathered X c)) ∗ (atPos ER (barCell c) (0 + 1) ∅ 0 ∗ spare c)
    ∗ ∃ W, owes (c : Thread nD τ) (0 : CellTallies nD τ sig Unit) W)

theorem bigSep_zip {ι : Type} (s : Finset ι) {A B C : ι → sProp 𝕄} (h : ∀ e, iprop(A e ∗ B e) ⊢ C e) :
    iprop(bigSep s A ∗ bigSep s B) ⊢ bigSep s C :=
  (Entails.of_eq (bigSep_sep s A B).symm).trans (bigSep_mono fun e _ => h e)

theorem zip_bar (B A T : sProp 𝕄) : iprop(B ∗ (A ∗ T)) ⊢ iprop((A ∗ B) ∗ T) := by
  iintro ⟨Hb, Hx, Ht⟩
  isplitr [Ht]
  · isplitl [Hx] <;> iassumption
  · iexact Ht
theorem zip_cred (B A T : sProp 𝕄) : iprop(B ∗ (A ∗ T)) ⊢ iprop((B ∗ A) ∗ T) := by
  iintro ⟨Hb, Hx, Ht⟩
  isplitr [Ht]
  · isplitl [Hb] <;> iassumption
  · iexact Ht

theorem to_await {R : sProp 𝕄} {A B : sProp 𝕄} :
    iprop(ctx X K c ∗ toSignal c 32 ∗ ((A ∗ B) ∗ R)) ⊢ iprop(ctx X K c ∗ (A ∗ B ∗ toSignal c 32) ∗ R) := by
  iintro ⟨Hc, Hs, ⟨HA, HB⟩, HR⟩
  isplitl [Hc]; · iexact Hc
  isplitr [HR]
  · isplitl [HA]; · iexact HA
    isplitl [HB] <;> iassumption
  iexact HR

theorem to_own {A O S : sProp 𝕄} : iprop(ctx X K c ∗ A ∗ O ∗ S) ⊢ iprop(ctx X K c ∗ O ∗ (A ∗ S)) := by
  iintro ⟨Hc, HA, HO, HS⟩
  isplitl [Hc]; · iexact Hc
  isplitl [HO]; · iexact HO
  isplitl [HA] <;> iassumption

theorem to_sends {A O Z : sProp 𝕄} :
    iprop(ctx X K c ∗ O ∗ ((A ∗ (bigSep (Finset.Ico 1 32) fun e => barPay c (onw c e)) ∗ ∃ W, owes (c : Thread nD τ) (owedCopies c 1) W)
        ∗ forSends X c ∗ Z))
      ⊢ iprop(ctx X K c ∗ toSend X c 1 ∗ (O ∗ A ∗ Z)) := by
  unfold forSends toSend
  iintro ⟨Hc, HO, ⟨HA, Hb, Hw⟩, Hs, HR⟩
  isplitl [Hc]; · iexact Hc
  isplitr [HO HA HR]
  · isplitr [Hw]
    · iapply (bigSep_zip (Finset.Ico 1 32) fun e => zip_bar _ _ _) $$ [Hb Hs]
      isplitl [Hb]
      · iexact Hb
      · iexact Hs
    · rw [Finset.Ico_self, bigSep_empty]
      isplitr; · iempintro
      iexact Hw
  · isplitl [HO]; · iexact HO
    isplitl [HA] <;> iassumption

theorem to_waits {A O Z : sProp 𝕄} :
    iprop(ctx X K c ∗ toSend X c 32 ∗ (O ∗ A ∗ forWaits c ∗ Z)) ⊢ iprop(ctx X K c ∗ toWait X c 1 ∗ (O ∗ (A ∗ Z))) := by
  unfold forWaits toWait toSend
  rw [owedCopies_end]
  iintro ⟨Hc, ⟨-, Hs, Hw⟩, HO, HA, HR, HZ⟩
  isplitl [Hc]; · iexact Hc
  isplitr [HO HA HZ]
  · isplitr [Hw]
    · iapply (bigSep_zip (Finset.Ico 1 32) fun e => zip_cred _ _ _) $$ [Hs HR]
      isplitl [Hs]
      · iexact Hs
      · iexact HR
    · rw [Finset.Ico_self, bigSep_empty]
      isplitr; · iempintro
      iexact Hw
  · isplitl [HO]; · iexact HO
    isplitl [HA] <;> iassumption

theorem to_end {A O : sProp 𝕄} :
    iprop(ctx X K c ∗ toWait X c 32 ∗ (O ∗ A)) ⊢ iprop(ctx X K c ∗ ((bigSep (Finset.Ico 1 32) fun e => iprop((inBlk c (onw c e) (X c) ∗ outBlk c (fr c e) (gathered X c))
      ∗ (atPos ER (sendCell c (slot e)) (0 + 1) ∅ 0 ∗ atPos ER (recvCell c (fr c e)) (0 + 1) ∅ 0)))
    ∗ O ∗ A ∗ ∃ W, owes (c : Thread nD τ) (0 : CellTallies nD τ sig Unit) W)) := by
  unfold toWait
  iintro ⟨Hc, ⟨-, Hs, Hw⟩, HO, HA⟩
  isplitl [Hc]; · iexact Hc
  isplitl [Hs]; · iexact Hs
  isplitl [HO]; · iexact HO
  isplitl [HA] <;> iassumption

/-! ## The body -/

set_option maxHeartbeats 1000000 in
set_option maxRecDepth 100000 in
theorem body_run {Q : PUnit → sProp 𝕄} {hx hy} (hQ : iprop(ctx X K c ∗ ending X c) ⊢ iprop(|={Set.univ}=> Q ⟨⟩)) :
    iprop(ctx X K c ∗ start X c) ⊢ wp frame (wpE (defs₀ (F := F)) 𝒱₀ (c : Thread nD τ) none) Set.univ (cc0_body xM hx yM hy cc0_scratch0 cc0_scratch1) Q := by
  simp only [Gen.cc0_body_eq_skeleton, Gen.cc0_body_skel, Gen.k0_part1_eq_skeleton, Gen.k0_part1_skel, Gen.k0_part2_eq_skeleton, Gen.k0_part2_skel, Gen.k0_part3_eq_skeleton, Gen.k0_part3_skel, Gen.k0_part4_eq_skeleton, Gen.k0_part4_skel, Gen.k0_part5_eq_skeleton, Gen.k0_part5_skel, Gen.k0_part6_eq_skeleton, Gen.k0_part6_skel, Gen.k0_part7_eq_skeleton, Gen.k0_part7_skel, Gen.k0_part8_eq_skeleton, Gen.k0_part8_skel, Gen.k0_part9_eq_skeleton, Gen.k0_part9_skel, Gen.k0_part10_eq_skeleton, Gen.k0_part10_skel, Gen.k0_part11_eq_skeleton, Gen.k0_part11_skel, Gen.k0_part12_eq_skeleton, Gen.k0_part12_skel, Gen.k0_part13_eq_skeleton, Gen.k0_part13_skel, Gen.k0_part14_eq_skeleton, Gen.k0_part14_skel, Gen.k0_part15_eq_skeleton, Gen.k0_part15_skel, Gen.k0_part16_eq_skeleton, Gen.k0_part16_skel, Gen.k0_part17_eq_skeleton, Gen.k0_part17_skel, Gen.k0_part18_eq_skeleton, Gen.k0_part18_skel, Gen.k0_part19_eq_skeleton, Gen.k0_part19_skel, Gen.k0_part20_eq_skeleton, Gen.k0_part20_skel, Gen.k0_part21_eq_skeleton, Gen.k0_part21_skel, Gen.k0_part22_eq_skeleton, Gen.k0_part22_skel, Gen.k0_part23_eq_skeleton, Gen.k0_part23_skel, Gen.k0_part24_eq_skeleton, Gen.k0_part24_skel, Gen.k0_part25_eq_skeleton, Gen.k0_part25_skel, Gen.k0_part26_eq_skeleton, Gen.k0_part26_skel, Gen.k0_part27_eq_skeleton, Gen.k0_part27_skel, Gen.k0_part28_eq_skeleton, Gen.k0_part28_skel, Gen.k0_part29_eq_skeleton, Gen.k0_part29_skel, Gen.k0_part30_eq_skeleton, Gen.k0_part30_skel, Gen.k0_part31_eq_skeleton, Gen.k0_part31_skel, Gen.k0_part32_eq_skeleton, Gen.k0_part32_skel, Gen.k0_part33_eq_skeleton, Gen.k0_part33_skel, Gen.k0_part34_eq_skeleton, Gen.k0_part34_skel,
    semSignalWord, semWaitWord, Prog.lift, Prog.bind_op, Prog.bind_ret, Prog.pure_eq_ret, wp_deviceId]
  unfold start
  iterate 31 refine step_signal X K c (by decide) (by decide) (Fin.ext (by simp only [Gen.k0_dev1_eq, Gen.k0_dev2_eq, Gen.k0_dev3_eq, Gen.k0_dev4_eq, Gen.k0_dev5_eq, Gen.k0_dev6_eq, Gen.k0_dev7_eq, Gen.k0_dev8_eq, Gen.k0_dev9_eq, Gen.k0_dev10_eq, Gen.k0_dev11_eq, Gen.k0_dev12_eq, Gen.k0_dev13_eq, Gen.k0_dev14_eq, Gen.k0_dev15_eq, Gen.k0_dev16_eq, Gen.k0_dev17_eq, Gen.k0_dev18_eq, Gen.k0_dev19_eq, Gen.k0_dev20_eq, Gen.k0_dev21_eq, Gen.k0_dev22_eq, Gen.k0_dev23_eq, Gen.k0_dev24_eq, Gen.k0_dev25_eq, Gen.k0_dev26_eq, Gen.k0_dev27_eq, Gen.k0_dev28_eq, Gen.k0_dev29_eq, Gen.k0_dev30_eq, Gen.k0_dev31_eq]; rfl)) rfl ?_
  refine (to_await X K c).trans ?_
  refine step_await X K c rfl ?_
  refine (to_own X K c).trans ?_
  refine step_own X K c (Gen.k0_off1_eq c) (Gen.k0_off2_eq c) ?_
  refine (to_sends X K c).trans ?_
  iterate 31 refine step_send X K c (by decide) (by decide) (Fin.ext (by simp only [Gen.k0_dev32_eq, Gen.k0_dev33_eq, Gen.k0_dev34_eq, Gen.k0_dev35_eq, Gen.k0_dev36_eq, Gen.k0_dev37_eq, Gen.k0_dev38_eq, Gen.k0_dev39_eq, Gen.k0_dev40_eq, Gen.k0_dev41_eq, Gen.k0_dev42_eq, Gen.k0_dev43_eq, Gen.k0_dev44_eq, Gen.k0_dev45_eq, Gen.k0_dev46_eq, Gen.k0_dev47_eq, Gen.k0_dev48_eq, Gen.k0_dev49_eq, Gen.k0_dev50_eq, Gen.k0_dev51_eq, Gen.k0_dev52_eq, Gen.k0_dev53_eq, Gen.k0_dev54_eq, Gen.k0_dev55_eq, Gen.k0_dev56_eq, Gen.k0_dev57_eq, Gen.k0_dev58_eq, Gen.k0_dev59_eq, Gen.k0_dev60_eq, Gen.k0_dev61_eq, Gen.k0_dev62_eq]; rfl)) (send_rows c (by decide) (by decide)) (Gen.k0_off4_eq c) (send_sem _ (by decide) rfl) (recv_sem c (Gen.k0_off3_eq c)) ?_
  refine (to_waits X K c).trans ?_
  iterate 31 refine step_wait X K c (by decide) (by decide) (send_sem _ (by decide) rfl) (recv_sem _ (wait_slot c (by decide) (by decide))) (credit_blk _) (credit_blk _) ?_
  refine (to_end X K c).trans ?_
  rw [wp_ret]
  exact hQ

end Cert.KernelIdeal.Exchange
-- ==== Proof.ExchangeEnds.lean ====
/-
  The two ends of the all-to-all's body: what the device comes with, cut into what the body starts from; what the body
  ends with, put together again, every semaphore cell closed at zero.
-/
module

public import proofs.«01_k».proof.Proof.ExchangeBody

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Inp F) (K : GSem nD τ sig → ℕ) (c : Dev nD)

/-! ## Opening the device's own cells -/

/-- The right to open each of the device's own cells. -/
def rights : sProp 𝕄 := bigSep Finset.univ fun k : Dev nD ⊕ Dev nD => openTok ER ((c : Thread nD τ), osem k)
/-- The device's positions at its own cells, at the start. -/
def places : sProp 𝕄 :=
  iprop((bigSep Finset.univ fun e : Dev nD => atPos ER (sendCell c e) 0 ∅ 0) ∗ bigSep Finset.univ fun j : Dev nD => atPos ER (recvCell c j) 0 ∅ 0)

theorem univ_sum (Φ : Dev nD ⊕ Dev nD → sProp 𝕄) :
    bigSep Finset.univ Φ = iprop((bigSep Finset.univ fun e => Φ (.inl e)) ∗ bigSep Finset.univ fun j => Φ (.inr j)) := bigSep_univ_sum Φ

theorem with_inv (k : Dev nD ⊕ Dev nD) :
    iprop(known X K ∗ openTok ER ((c : Thread nD τ), osem k))
      ⊢ iprop(cellInv ER (rd X) (K ((c : Thread nD τ), osem k)) ((c : Thread nD τ), osem k) ∗ openTok ER ((c : Thread nD τ), osem k)) :=
  sep_mono_left (known_inv X K (c, .inr k))

theorem open_own : iprop(known X K ∗ rights c ∗ Pipeline.ownSems0 osem c) ⊢ (|={Set.univ}=> iprop(here c ∗ places c) : sProp 𝕄) := by
  have h1 : iprop(known X K ∗ rights c) ⊢ bigSep Finset.univ fun k : Dev nD ⊕ Dev nD =>
      (iprop(cellInv ER (rd X) (K ((c : Thread nD τ), osem k)) ((c : Thread nD τ), osem k) ∗ openTok ER ((c : Thread nD τ), osem k)) : sProp 𝕄) :=
    bigSep_with_persistent fun k _ => with_inv X K c k
  have h2 := Rounds.cells_open ER (rd X) (Es := Set.univ) (Finset.univ : Finset (Dev nD ⊕ Dev nD)) (fun k => ((c : Thread nD τ), osem k))
    (fun k => K ((c : Thread nD τ), osem k)) (fun _ _ => Set.mem_univ _)
  have h3 : (bigSep Finset.univ fun k : Dev nD ⊕ Dev nD =>
      (iprop(atPos ER ((c : Thread nD τ), osem k) 0 ∅ 0 ∗ reached ER ((c : Thread nD τ), osem k) 0) : sProp 𝕄)) ⊢ iprop(here c ∗ places c) := by
    unfold here places
    rw [bigSep_sep', univ_sum, univ_sum]
    iintro ⟨⟨Ha, Hb⟩, ⟨Hc, Hd⟩⟩
    isplitl [Hc Hd]
    · isplitl [Hd] <;> iassumption
    · isplitl [Ha] <;> iassumption
  unfold Pipeline.ownSems0
  iintro ⟨#Hk, Hr, Hs⟩
  imod h2 $$ [Hr Hs] with H
  · isplitl [Hr]
    · iapply h1
      isplitr; · iexact Hk
      iexact Hr
    · iexact Hs
  imodintro
  iapply h3 $$ H

/-! ## Before the body -/

/-- What the device comes with, past what it knows. -/
def brought : sProp 𝕄 :=
  iprop((inAll c (X c) ∗ ∃ f : Out F, outAll c f) ∗ toks c ∗ creds c ∗ atPos ER (barCell c) 0 ∅ 0 ∗ places c
    ∗ ∃ W, owes (c : Thread nD τ) (O₀ c) W)

theorem some_blk (f : Out F) : (bigSep (Finset.Ico 1 32) fun e => (outBlk c (onw c e) f : sProp 𝕄))
    ⊢ bigSep (Finset.Ico 1 32) fun e => iprop(∃ f : Out F, outBlk c (onw c e) f) :=
  bigSep_mono fun e _ => (by iintro H; iexists f; iexact H : (outBlk c (onw c e) f : sProp 𝕄) ⊢ iprop(∃ f : Out F, outBlk c (onw c e) f))

theorem start_intro : brought X c ⊢ start X c := by
  unfold brought start toks creds places forSends forWaits spare toSignal O₀
  rw [inAll_blocks, deal_to c (fun p => inBlk c p (X c)), deal_to c (fun p : Dev nD => dutyTok ER (barCell p) 0 c),
    deal_to c (fun p : Dev nD => dutyTok ER (recvCell p c) 0 c), deal_to 0 (fun e : Dev nD => dutyTok ER (sendCell c e) 0 c),
    deal_to 0 (fun e : Dev nD => atPos ER (sendCell c e) 0 ∅ 0), deal_fr c (fun j : Dev nD => atPos ER (recvCell c j) 0 ∅ 0)]
  simp only [outAll_blocks, deal_to c (fun p => outBlk c p _)]
  rw [bigSep_sep', bigSep_sep', bigSep_sep', bigSep_sep', bigSep_sep']
  iintro ⟨⟨⟨Hi, His⟩, ⟨%f, Ho, Hos⟩⟩, ⟨⟨-, HtB⟩, ⟨-, HtR⟩, ⟨-, HtS⟩⟩, ⟨HcB, HcR⟩, HaB, ⟨⟨Ha0, HaS⟩, ⟨Hac, HaR⟩⟩, HO⟩
  isplitl [HtB Hos HO]
  · isplitr [HO]
    · isplitl [HtB]; · iexact HtB
      iapply (some_blk c f) $$ Hos
    · iexact HO
  isplitl [HcB HaB]
  · isplitl [HcB] <;> iassumption
  isplitl [Hi Ho]
  · isplitl [Hi]; · iexact Hi
    iexists f; iexact Ho
  isplitl [His HtS HtR]
  · isplitl [His]; · iexact His
    isplitl [HtS] <;> iassumption
  isplitl [HcR HaS HaR]
  · isplitl [HcR]; · iexact HcR
    isplitl [HaS] <;> iassumption
  isplitl [Ha0] <;> iassumption

/-! ## After the body -/

/-- The round each of the device's own cells ends in: the two it never uses stay at the start. -/
def last : Dev nD ⊕ Dev nD → ℕ := fun
  | .inl e => if e = 0 then 0 else 0 + 1
  | .inr j => if j = c then 0 else 0 + 1

theorem last_zero : last c (.inl 0) = 0 := by simp only [last, if_pos]
theorem last_self : last c (.inr c) = 0 := by simp only [last, if_pos]
theorem last_send {e : Dev nD} (h : e ≠ 0) : last c (.inl e) = 0 + 1 := by simp only [last, if_neg h]
theorem last_recv {j : Dev nD} (h : j ≠ c) : last c (.inr j) = 0 + 1 := by simp only [last, if_neg h]

theorem last_done (k : Dev nD ⊕ Dev nD) (r : ℕ) (h : last c k ≤ r) : (rd (F := F) X).duties ((c : Thread nD τ), osem k) r = ∅ := by
  rcases Nat.eq_zero_or_pos r with rfl | hr
  · rcases k with e | j
    · have he : e = 0 := by by_contra hne; simp only [last, if_neg hne] at h; omega
      exact (duties_send X c e).trans (if_pos he)
    · have hj : j = c := by by_contra hne; simp only [last, if_neg hne] at h; omega
      exact (duties_recv X c j).trans (if_pos hj)
  · exact duties_later X _ r hr

theorem places_end :
    iprop(((bigSep (Finset.Ico 1 32) fun e => atPos ER (sendCell c (slot e)) (0 + 1) ∅ 0)
        ∗ bigSep (Finset.Ico 1 32) fun e => atPos ER (recvCell c (fr c e)) (0 + 1) ∅ 0) ∗ spare c)
      ⊢ (bigSep Finset.univ fun k : Dev nD ⊕ Dev nD => (atPos ER ((c : Thread nD τ), osem k) (last c k) ∅ 0 : sProp 𝕄)) := by
  have hS : (bigSep (Finset.Ico 1 32) fun e => (atPos ER ((c : Thread nD τ), osem (.inl (onw 0 e))) (last c (.inl (onw 0 e))) ∅ 0 : sProp 𝕄))
      = bigSep (Finset.Ico 1 32) fun e => atPos ER (sendCell c (slot e)) (0 + 1) ∅ 0 := bigSep_congr fun e he => by
    rw [Finset.mem_Ico] at he
    rw [last_send c (to_ne 0 he.1 he.2)]
  have hR : (bigSep (Finset.Ico 1 32) fun e => (atPos ER ((c : Thread nD τ), osem (.inr (fr c e))) (last c (.inr (fr c e))) ∅ 0 : sProp 𝕄))
      = bigSep (Finset.Ico 1 32) fun e => atPos ER (recvCell c (fr c e)) (0 + 1) ∅ 0 := bigSep_congr fun e he => by
    rw [Finset.mem_Ico] at he
    rw [last_recv c (fr_ne c he.1 he.2)]
  unfold spare
  rw [univ_sum, deal_to 0 (fun e : Dev nD => atPos ER ((c : Thread nD τ), osem (.inl e)) (last c (.inl e)) ∅ 0),
    deal_fr c (fun j : Dev nD => atPos ER ((c : Thread nD τ), osem (.inr j)) (last c (.inr j)) ∅ 0),
    last_zero, last_self, hS, hR]
  iintro ⟨⟨HS, HR⟩, ⟨H0, Hc⟩⟩
  isplitl [H0 HS]
  · isplitl [H0] <;> iassumption
  · isplitl [Hc] <;> iassumption

/-- What the device leaves with. -/
def leaves : sProp 𝕄 :=
  iprop((semVal (barCell c) 0 ∗ Pipeline.ownSems0 osem c) ∗ (inAll c (X c) ∗ outAll c (gathered X c))
    ∗ ∃ W, owes (c : Thread nD τ) (0 : CellTallies nD τ sig Unit) W)

theorem finish : iprop(known X K ∗ ending X c) ⊢ (|={Set.univ}=> leaves X c : sProp 𝕄) := by
  have h1 : iprop(known X K ∗ bigSep Finset.univ fun k : Dev nD ⊕ Dev nD => (atPos ER ((c : Thread nD τ), osem k) (last c k) ∅ 0 : sProp 𝕄))
      ⊢ bigSep Finset.univ fun k : Dev nD ⊕ Dev nD =>
        (iprop(cellInv ER (rd X) (K ((c : Thread nD τ), osem k)) ((c : Thread nD τ), osem k) ∗ atPos ER ((c : Thread nD τ), osem k) (last c k) ∅ 0) : sProp 𝕄) :=
    bigSep_with_persistent fun k _ => sep_mono_left (known_inv X K (c, .inr k))
  have h2 := Rounds.cells_close ER (rd X) (Es := Set.univ) (Finset.univ : Finset (Dev nD ⊕ Dev nD)) (fun k => ((c : Thread nD τ), osem k))
    (fun k => K ((c : Thread nD τ), osem k)) (fun _ _ => Set.mem_univ _) (fun _ _ h => h) (last c) (fun k _ => last_done X c k)
  have h3 := Rounds.cell_close ER (rd X) (Es := Set.univ) (g := barCell c) (κ := K (barCell c)) (Set.mem_univ _) (fun h => h) (R := 0 + 1)
    (fun r hr => duties_later X (barCell c) r hr)
  unfold ending leaves Pipeline.ownSems0
  rw [inAll_blocks, deal_to c (fun p => inBlk c p (X c)), outAll_blocks, deal_fr c (fun p => outBlk c p (gathered X c)),
    bigSep_sep', bigSep_sep', bigSep_sep']
  iintro ⟨#Hk, ⟨⟨His, Hos⟩, Hat⟩, ⟨Hi, Ho⟩, ⟨HaB, Hsp⟩, HO⟩
  imod h3 $$ [HaB] with HvB
  · isplitr; · iapply (known_bar X K c); iexact Hk
    iexact HaB
  imod h2 $$ [Hat Hsp] with Hv
  · iapply h1
    isplitr; · iexact Hk
    iapply (places_end c)
    isplitl [Hat] <;> iassumption
  imodintro
  isplitl [HvB Hv]
  · isplitl [HvB]; · iexact HvB
    iexact Hv
  isplitr [HO]
  · isplitl [Hi His]
    · isplitl [Hi] <;> iassumption
    · isplitl [Ho] <;> iassumption
  iexact HO

/-- The whole body, end to end. -/
theorem exchange_run {Q : PUnit → sProp 𝕄} {hx hy} (hQ : leaves X c ⊢ Q ⟨⟩) :
    iprop(ctx X K c ∗ brought X c) ⊢ wp frame (wpE (defs₀ (F := F)) 𝒱₀ (c : Thread nD τ) none) Set.univ (cc0_body xM hx yM hy cc0_scratch0 cc0_scratch1) Q := by
  refine (sep_mono_right (start_intro X c)).trans (body_run X K c ?_)
  unfold ctx
  iintro ⟨⟨#Hk, -, -⟩, He⟩
  imod (finish X K c) $$ [He] with H
  · isplitr; · iexact Hk
    iexact He
  imodintro
  iapply hQ $$ H

end Cert.KernelIdeal.Exchange
-- ==== Proof.ExchangeRegion.lean ====
/-
  The first kernel, the all-to-all, as the pipeline's region: what it finds and leaves, and its body's obligation.
-/
module

public import proofs.«01_k».proof.Proof.ExchangeEnds
public import Idealize.ShloMosaic.Lib.Pipeline.FrameBody

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- Device `c`'s buffers at launch. -/
abbrev V₀ (c : Dev nD) : Valuation τ sig (Elt F) := fun b => m (c, b)

/-- Window `w`'s block at point `t`, read off its array at launch. -/
def blk0 (c : Dev nD) (w : Fin cfg0.W) (t : Fin cfg0.N) : ((cfg0.win w).xblock (cfg0.grid.coords t)).Idx → Elt F (cfg0.win w).elt :=
  ((cfg0.win w).blk t).view.read (Elt F) (V₀ m c (Proc.devRef .tc (Pipeline.arrRef cfg0.spec w)))

/-- What each device brings to the all-to-all. -/
def inputs (c : Dev nD) : Inp F := blk0 m c 0 Gen.t0_0

/-! ## What goes in and what comes out -/

def Tk (c : Dev nD) : sProp 𝕄 :=
  iprop((∃ K, known (inputs m) K) ∗ toks c ∗ creds c ∗ atPos ER (barCell c) 0 ∅ 0 ∗ rights c)
def Xk (c : Dev nD) : sProp 𝕄 :=
  iprop((∃ K, ctx (inputs m) K c) ∗ toks c ∗ creds c ∗ atPos ER (barCell c) 0 ∅ 0 ∗ places c)
def Yk (c : Dev nD) : sProp 𝕄 := semVal (barCell c) 0
/-- What the all-to-all leaves alone. -/
def alone (c : Dev nD) : sProp 𝕄 := iprop(Pipeline.scopedRest (Ix := Unit) (Name := ℕ) (U := UU) (Lvl := ℕ) (Val := Elt F) spec0 c ∗ ∃ r, prngReg c r)

theorem opening (c : Dev nD) : iprop(Tk m c ∗ Pipeline.ownSems0 osem c ∗ levAts L lv) ⊢ (|={Set.univ}=> Xk m c : sProp 𝕄) := by
  unfold Tk Xk ctx
  iintro ⟨⟨⟨%K, #Hk⟩, Ht, Hc, Ha, Hr⟩, Hs, #Hl⟩
  imod (open_own (inputs m) K c) $$ [Hr Hs] with ⟨#Hh, Hp⟩
  · isplitr; · iexact Hk
    isplitl [Hr] <;> iassumption
  imodintro
  isplitr
  · iexists K
    isplitr; · iexact Hk
    isplitr; · iexact Hh
    iexact Hl
  isplitl [Ht]; · iexact Ht
  isplitl [Hc]; · iexact Hc
  isplitl [Ha] <;> iassumption

/-! ## The proof data -/

def dat0 (c : Dev nD) : Dat τ (Elt F) Unit ℕ UU ℕ cfg0 c where
  A w := V₀ m c (Proc.devRef .tc (Pipeline.arrRef cfg0.spec w))
  after w t := match w with
    | ⟨0, _⟩ => blk0 m c 0 t
    | ⟨1, _⟩ => gathered (inputs m) c
  Φ t := if t.val = 0 then iprop(Xk m c ∗ alone c) else iprop((Yk c ∗ Pipeline.ownSems0 osem c) ∗ alone c)
  q _ := fullShare
  owed t := if t.val = 0 then O₀ c else 0

theorem A0_eq (c : Dev nD) (w : Fin cfg0.W) : (dat0 m c).A w = V₀ m c (Proc.devRef .tc (Pipeline.arrRef cfg0.spec w)) := by
  dsimp only [dat0]
theorem after0_0 (c : Dev nD) (t : Fin cfg0.N) : (dat0 m c).after 0 t = blk0 m c 0 t := by dsimp only [dat0]
theorem after0_1 (c : Dev nD) (t : Fin cfg0.N) : (dat0 m c).after 1 t = gathered (inputs m) c := by dsimp only [dat0]
theorem before0_0 (c : Dev nD) (t : Fin cfg0.N) (d) : (dat0 m c).before 0 t d = blk0 m c 0 t :=
  ((dat0 m c).before_in_eq_fetched 0 rfl (fun _ => rfl) (fun _ _ _ => rfl) (fun t => by rw [after0_0]; unfold Dat.blockOf blk0; rw [A0_eq]) t d).trans
    (by unfold Dat.fetched Dat.blockOf blk0; rw [A0_eq]; try rfl)

theorem owed0_first (c : Dev nD) : (dat0 m c).owed Gen.t0_0.castSucc = O₀ c := by dsimp only [dat0]; exact if_pos rfl
theorem owed0_zero (c : Dev nD) : (dat0 m c).owed 0 = O₀ c := by dsimp only [dat0]; exact if_pos rfl
theorem owed0_succ (c : Dev nD) : (dat0 m c).owed Gen.t0_0.succ = 0 := by dsimp only [dat0]; exact if_neg (by decide)
theorem owed0_last (c : Dev nD) : (dat0 m c).owed (Fin.last _) = 0 := by
  dsimp only [dat0]; exact if_neg (by rw [Fin.val_last, show cfg0.N = 1 from Gen.N_0]; decide)
theorem Φ0_first (c : Dev nD) : (dat0 m c).Φ Gen.t0_0.castSucc = iprop(Xk m c ∗ alone c) := by dsimp only [dat0]; exact if_pos rfl
theorem Φ0_zero (c : Dev nD) : (dat0 m c).Φ 0 = iprop(Xk m c ∗ alone c) := by dsimp only [dat0]; exact if_pos rfl
theorem Φ0_succ (c : Dev nD) : (dat0 m c).Φ Gen.t0_0.succ = iprop((Yk c ∗ Pipeline.ownSems0 osem c) ∗ alone c) := by
  dsimp only [dat0]; exact if_neg (by decide)
theorem Φ0_last (c : Dev nD) : (dat0 m c).Φ (Fin.last _) = iprop((Yk c ∗ Pipeline.ownSems0 osem c) ∗ alone c) := by
  dsimp only [dat0]; exact if_neg (by rw [Fin.val_last, show cfg0.N = 1 from Gen.N_0]; decide)

/-! ## The body's obligation -/

theorem owes_in (c : Dev nD) : ((dat0 m c).owesAt () Gen.t0_0.castSucc : sProp 𝕄) ⊢ iprop(∃ W, owes (c : Thread nD τ) (O₀ c) W) := by
  unfold Dat.owesAt Pipeline.owesWithin; rw [owed0_first]
  iintro ⟨%W, -, HO⟩; iexists W; iexact HO
theorem owes_out (c : Dev nD) : iprop(∃ W, owes (c : Thread nD τ) (0 : CellTallies nD τ sig Unit) W) ⊢ ((dat0 m c).owesAt () Gen.t0_0.succ : sProp 𝕄) := by
  unfold Dat.owesAt Pipeline.owesWithin Dat.bound; rw [owed0_succ]
  iintro ⟨%W, HO⟩; iexists W; isplitr; · ipureintro; exact fun _ _ => Or.inl trivial
  iexact HO

theorem owns_in (c : Dev nD) (v : Inp F) : (owns (c : Thread nD τ) (Gen.st0_0 Gen.t0_0) fullShare v : sProp 𝕄) = inAll c v :=
  owns_whole (c : Thread nD τ) cc0_stg0_0 fullShare v
theorem owns_out (c : Dev nD) (v : Out F) : (owns (c : Thread nD τ) (Gen.st0_1 Gen.t0_0) fullShare v : sProp 𝕄) = outAll c v :=
  owns_whole (c : Thread nD τ) cc0_stg1_0 fullShare v

theorem owns_input (c : Dev nD) : (owns (c : Thread nD τ) (Gen.st0_0 Gen.t0_0) fullShare (blk0 m c 0 Gen.t0_0) : sProp 𝕄) = inAll c (inputs m c) :=
  owns_in c (inputs m c)

def bodyPre0 (c : Dev nD) : sProp 𝕄 :=
  iprop((dat0 m c).Φ Gen.t0_0.castSucc ∗ (dat0 m c).owesAt () Gen.t0_0.castSucc
    ∗ (∃ d, owns (c : Thread nD τ) (Gen.st0_0 Gen.t0_0) fullShare ((dat0 m c).before 0 Gen.t0_0 d))
    ∗ (∃ d, owns (c : Thread nD τ) (Gen.st0_1 Gen.t0_0) fullShare ((dat0 m c).before 1 Gen.t0_0 d)))
def bodyPost0 (c : Dev nD) : sProp 𝕄 :=
  iprop((dat0 m c).Φ Gen.t0_0.succ ∗ (dat0 m c).owesAt () Gen.t0_0.succ
    ∗ owns (c : Thread nD τ) (Gen.st0_0 Gen.t0_0) fullShare ((dat0 m c).after 0 Gen.t0_0)
    ∗ owns (c : Thread nD τ) (Gen.st0_1 Gen.t0_0) fullShare ((dat0 m c).after 1 Gen.t0_0))

theorem pre0_split (c : Dev nD) : bodyPre0 m c ⊢ iprop((∃ K, ctx (inputs m) K c) ∗ brought (inputs m) c ∗ alone c) := by
  unfold bodyPre0 brought
  rw [Φ0_first]
  simp only [before0_0]
  unfold Xk
  iintro ⟨⟨⟨HK, Ht, Hc, Ha, Hp⟩, Hal⟩, HO, ⟨%d0, H0⟩, ⟨%d1, H1⟩⟩
  isplitl [HK]; · iexact HK
  isplitr [Hal]
  · isplitl [H0 H1]
    · isplitl [H0]
      · iapply (Entails.of_eq (owns_input m c)) $$ H0
      · iexists (dat0 m c).before 1 Gen.t0_0 d1
        iapply (Entails.of_eq (owns_out c ((dat0 m c).before 1 Gen.t0_0 d1))) $$ H1
    isplitl [Ht]; · iexact Ht
    isplitl [Hc]; · iexact Hc
    isplitl [Ha]; · iexact Ha
    isplitl [Hp]; · iexact Hp
    iapply (owes_in m c) $$ HO
  · iexact Hal

theorem post0_join (c : Dev nD) : iprop(leaves (inputs m) c ∗ alone c) ⊢ bodyPost0 m c := by
  unfold bodyPost0 leaves
  rw [Φ0_succ, after0_0, after0_1]
  unfold Yk
  iintro ⟨⟨⟨Hb, Hs⟩, ⟨H0, H1⟩, HO⟩, Hal⟩
  isplitl [Hb Hs Hal]
  · isplitl [Hb Hs]
    · isplitl [Hb] <;> iassumption
    · iexact Hal
  isplitl [HO]; · iapply (owes_out m c) $$ HO
  isplitl [H0]
  · iapply (Entails.of_eq (owns_input m c).symm) $$ H0
  · iapply (Entails.of_eq (owns_out c (gathered (inputs m) c)).symm) $$ H1

theorem sound_body0 (c : Dev nD) :
    bodyPre0 m c ⊢ wp frame (wpE (defs₀ (F := F)) 𝒱₀ (c : Thread nD τ) none) Set.univ (Gen.bodyAt0 Gen.t0_0) (fun _ => bodyPost0 m c) := by
  have hrun (K : GSem nD τ sig → ℕ) := (sep_mono_left (exchange_run (inputs m) K c (Q := fun _ => leaves (inputs m) c)
    (hx := Gen.hstage0_0 0) (hy := Gen.hstage0_1 0) .rfl)).trans
      ((wp_frame_r _ _ _ (R := alone c)).trans (wp_mono _ _ _ fun _ => post0_join m c))
  refine (pre0_split m c).trans ?_
  iintro ⟨⟨%K, HK⟩, Hb, Hal⟩
  iapply (hrun K)
  isplitr [Hal]
  · isplitl [HK] <;> iassumption
  · iexact Hal

theorem row0 (t : Fin cfg0.N) : defs₀ (F := F) .tc cfg0.body (cfg0.bodyArgs t (cfg0.slots t)) = Gen.bodyAt0 t := by
  unfold defs₀; rw [Defs.onTc_tc]

theorem body0 (c : Dev nD) : BodyObligation (dat0 m c) (defs₀ (F := F)) 𝒱₀ () Set.univ := fun t => by
  obtain rfl := Gen.fin_N0 t
  rw [Gen.bigSep_W0, Gen.bigSep_W0, row0]
  exact triple_restated (sound_body0 m c) rfl .rfl fun _ => .rfl

end Cert.KernelIdeal.Exchange
-- ==== Proof.ProductRegion.lean ====
/-
  The second kernel, the product, as the pipeline's region: it finds what the all-to-all left.
-/
module

public import proofs.«01_k».proof.Proof.ExchangeRegion
public import Idealize.ShloMosaic.Lib.Pipeline.FrameTail
public import Idealize.ShloMosaic.Lib.Claim
public import Idealize.ShloMosaic.Lib.WordCmp

@[expose] public section

set_option maxRecDepth 16384

noncomputable section

namespace Cert.KernelIdeal.Exchange

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- Device `c`'s buffers between the two kernels. -/
def V₁ (c : Dev nD) : Valuation τ sig (Elt F) := Pipeline.afterRegion (dat0 m c) (V₀ m c)

/-- Window `w`'s block at point `t`, read off its array as the product finds it. -/
def blk1 (c : Dev nD) (w : Fin cfg1.W) (t : Fin cfg1.N) : ((cfg1.win w).xblock (cfg1.grid.coords t)).Idx → Elt F (cfg1.win w).elt :=
  ((cfg1.win w).blk t).view.read (Elt F) (V₁ m c (Proc.devRef .tc (Pipeline.arrRef cfg1.spec w)))

abbrev wholeX : Rect S128x4096 := Rect.unit (s := S128x4096) ![0, 0] S128x4096.size Gen.inb_S128x4096_S128x4096_0_0
abbrev wholeW : Rect S4096x512 := Rect.unit (s := S4096x512) ![0, 0] S4096x512.size Gen.inb_S4096x512_S4096x512_0_0
abbrev wholeY : Rect S128x512 := Rect.unit (s := S128x512) ![0, 0] S128x512.size Gen.inb_S128x512_S128x512_0_0

/-- What the body leaves in the output's buffer, from what it finds in the inputs'. -/
def stored (x : Vec F S128x4096 .f32) (w : Vec F S4096x512 .f32) : Vec F S128x512 .f32 :=
  View.canon [⟨wholeY, Gen.k1_pay1 (View.ld x wholeX) (View.ld w wholeW)⟩]

theorem stored_cover (p : Vec F S128x512 .f32) (y : S128x512.Idx) :
    ∃ pc ∈ ([⟨wholeY, p⟩] : List (View.Piece (Elt F) S128x512 .f32)), y ∈ pc.1.set :=
  View.cover_of_tiled [⟨wholeY, p⟩] S128x512.size (by rfl) y

set_option maxHeartbeats 1000000 in
theorem product_run (c : Dev nD) (i : grid1.Coords) (a1 : Memref sig .tc .vmem S128x4096 .f32) (h1 : a1.IsWhole)
    (a2 : Memref sig .tc .vmem S4096x512 .f32) (h2 : a2.IsWhole) (a3 : Memref sig .tc .vmem S128x512 .f32) (h3 : a3.IsWhole)
    (x : Vec F S128x4096 .f32) (w : Vec F S4096x512 .f32) (Q : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (stored x w)) -∗ Q ⟨⟩))
      ⊢ wp frame (wpE (defs₀ (F := F)) 𝒱₀ c none) Set.univ (cc1_body i a1 h1 a2 h2 a3 h3) Q := by
  simp only [Gen.cc1_body_eq_skeleton]; unfold Gen.cc1_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

/-! ## The proof data -/

/-- What the product leaves alone. -/
def alone1 (c : Dev nD) : sProp 𝕄 := iprop(Pipeline.scopedRest (Ix := Unit) (Name := ℕ) (U := UU) (Lvl := ℕ) (Val := Elt F) spec1 c ∗ ∃ r, prngReg c r)

def dat1 (c : Dev nD) : Dat τ (Elt F) Unit ℕ UU ℕ cfg1 c where
  A w := V₁ m c (Proc.devRef .tc (Pipeline.arrRef cfg1.spec w))
  after w t := match w with
    | ⟨0, _⟩ => blk1 m c 0 t
    | ⟨1, _⟩ => blk1 m c 1 t
    | ⟨2, _⟩ => stored (blk1 m c 0 t) (blk1 m c 1 t)
  Φ _ := alone1 c
  q _ := fullShare
  owed _ := 0

theorem A1_eq (c : Dev nD) (w : Fin cfg1.W) : (dat1 m c).A w = V₁ m c (Proc.devRef .tc (Pipeline.arrRef cfg1.spec w)) := by
  dsimp only [dat1]
theorem after1_0 (c : Dev nD) (t : Fin cfg1.N) : (dat1 m c).after 0 t = blk1 m c 0 t := by dsimp only [dat1]
theorem after1_1 (c : Dev nD) (t : Fin cfg1.N) : (dat1 m c).after 1 t = blk1 m c 1 t := by dsimp only [dat1]
theorem after1_2 (c : Dev nD) (t : Fin cfg1.N) : (dat1 m c).after 2 t = stored (blk1 m c 0 t) (blk1 m c 1 t) := by dsimp only [dat1]
theorem before1_0 (c : Dev nD) (t : Fin cfg1.N) (d) : (dat1 m c).before 0 t d = blk1 m c 0 t :=
  ((dat1 m c).before_in_eq_fetched 0 rfl (fun _ => rfl) (fun _ _ _ => rfl) (fun t => by rw [after1_0]; unfold Dat.blockOf blk1; rw [A1_eq]) t d).trans
    (by unfold Dat.fetched Dat.blockOf blk1; rw [A1_eq]; try rfl)
theorem before1_1 (c : Dev nD) (t : Fin cfg1.N) (d) : (dat1 m c).before 1 t d = blk1 m c 1 t :=
  ((dat1 m c).before_in_eq_fetched 1 rfl (fun _ => rfl) (fun _ _ _ => rfl) (fun t => by rw [after1_1]; unfold Dat.blockOf blk1; rw [A1_eq]) t d).trans
    (by unfold Dat.fetched Dat.blockOf blk1; rw [A1_eq]; try rfl)

/-! ## The body's obligation -/

def bodyPre1 (c : Dev nD) (t : Fin cfg1.N) : sProp 𝕄 :=
  iprop((dat1 m c).Φ t.castSucc ∗ (dat1 m c).owesAt () t.castSucc
    ∗ (∃ d, owns (c : Thread nD τ) (Gen.st1_0 t) fullShare ((dat1 m c).before 0 t d))
    ∗ (∃ d, owns (c : Thread nD τ) (Gen.st1_1 t) fullShare ((dat1 m c).before 1 t d))
    ∗ (∃ d, owns (c : Thread nD τ) (Gen.st1_2 t) fullShare ((dat1 m c).before 2 t d)))
def bodyPost1 (c : Dev nD) (t : Fin cfg1.N) : sProp 𝕄 :=
  iprop((dat1 m c).Φ t.succ ∗ (dat1 m c).owesAt () t.succ
    ∗ owns (c : Thread nD τ) (Gen.st1_0 t) fullShare ((dat1 m c).after 0 t)
    ∗ owns (c : Thread nD τ) (Gen.st1_1 t) fullShare ((dat1 m c).after 1 t)
    ∗ owns (c : Thread nD τ) (Gen.st1_2 t) fullShare ((dat1 m c).after 2 t))

theorem sound_body1 (c : Dev nD) (t : Fin cfg1.N) :
    bodyPre1 m c t ⊢ wp frame (wpE (defs₀ (F := F)) 𝒱₀ c none) Set.univ (Gen.bodyAt1 t) (fun _ => bodyPost1 m c t) := by
  unfold bodyPre1 bodyPost1 Gen.bodyAt1
  simp only [before1_0, before1_1]
  rw [show (dat1 m c).Φ t.succ = (dat1 m c).Φ t.castSucc from rfl,
    show (dat1 m c).owesAt () t.succ = (dat1 m c).owesAt () t.castSucc from rfl, after1_0, after1_1, after1_2]
  iintro ⟨HΦ, Ho, ⟨%d0, H0⟩, ⟨%d1, H1⟩, ⟨%d2, H2⟩⟩
  iapply (product_run c (grid1.coords t) _ _ _ _ _ _ (blk1 m c 0 t) (blk1 m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row1 (t : Fin cfg1.N) : defs₀ (F := F) .tc cfg1.body (cfg1.bodyArgs t (cfg1.slots t)) = Gen.bodyAt1 t := by
  unfold defs₀; rw [Defs.onTc_tc]

theorem body1 (c : Dev nD) : BodyObligation (dat1 m c) (defs₀ (F := F)) 𝒱₀ () Set.univ := fun t => by
  rw [Gen.bigSep_W1, Gen.bigSep_W1, row1]
  exact triple_restated (sound_body1 m c t) rfl .rfl fun _ => .rfl

/-- Device `c`'s buffers at the end. -/
def V₂ (c : Dev nD) : Valuation τ sig (Elt F) := Pipeline.afterRegion (dat1 m c) (V₁ m c)

end Cert.KernelIdeal.Exchange
-- ==== Proof.Segments.lean ====
/-
  The two kernels as the program's two segments, and what lies between them.
-/
module

public import proofs.«01_k».proof.Proof.ProductRegion
public import Idealize.ShloMosaic.Lib.Pipeline.RegionArraysS

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev adm : (p : Fin 2) → (pcfgs (F := F) p).Adm := fun p => (cfgs p).toPCfg_adm

def pdats : (p : Fin 2) → (c : Dev nD) → Pipeline.Dat τ (Elt F) Unit ℕ UU ℕ (Pipeline.pin (pcfgs (F := F)) adm p) c
  | 0 => dat0 m
  | 1 => dat1 m

/-- The buffers the all-to-all does not touch. -/
abbrev untouched : Finset (DevRef τ sig) := Pipeline.ucRefs τ sig \ Pipeline.arrRefs (τ := τ) spec0

theorem owned_sems : Pipeline.OwnSemFacts spec0 osem := by decide +kernel

theorem arrRefs0_sub : Pipeline.arrRefs (τ := τ) spec0 ⊆ Pipeline.ucRefs τ sig := Pipeline.arrRefs_sub_ucRefs spec0 (by decide)
theorem arrRefs1_sub : Pipeline.arrRefs (τ := τ) spec1 ⊆ Pipeline.ucRefs τ sig := Pipeline.arrRefs_sub_ucRefs spec1 (by decide)

theorem held_none (c : Dev nD) (W : Valuation τ sig (Elt F)) : (StableHlo.held (c.tc : Thread nD τ) ∅ W : sProp 𝕄) = BI.emp := by
  unfold StableHlo.held; exact BI.bigSep_empty

theorem entering0 (c : Dev nD) : iprop(Pipeline.scopedRest (Pipeline.pin (pcfgs (F := F)) adm 0).spec c ∗ (∃ r, prngReg c r)
      ∗ StableHlo.held (c.tc : Thread nD τ) ∅ (V₀ m c) ∗ Xk m c) ⊢ (pdats m 0 c).Φ 0 := by
  rw [show (pdats m 0 c).Φ 0 = iprop(Xk m c ∗ alone c) from Φ0_zero m c]
  unfold alone
  iintro ⟨Hs, Hp, -, HX⟩
  isplitl [HX]; · iexact HX
  isplitl [Hs]; · iexact Hs
  iexact Hp

theorem leaving0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₁ m c) ∗ Pipeline.ownSems0 osem c ∗ Yk c) := by
  rw [show (pdats m 0 c).Φ (Fin.last _) = iprop((Yk c ∗ Pipeline.ownSems0 osem c) ∗ alone c) from Φ0_last m c, held_none]
  unfold alone
  iintro ⟨⟨HY, Ho⟩, Hs, Hp⟩
  isplitl [Hs]; · iexact Hs
  isplitl [Hp]; · iexact Hp
  isplitr; · iempintro
  isplitl [Ho]; · iexact Ho
  iexact HY

theorem cut0 (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact owed_level h
  · exact absurd h (Nat.lt_irrefl 0)

/-- The staging semaphores stand at level 0. -/
theorem staging_low0 (c : Dev nD) : ∀ (w : Fin 2) (s : Fin (spec0 w).nbuf), lv ((c : Thread nD τ), .dma ((spec0 w).sem s)) () ≤ 0 := by
  have h : ∀ (w : Fin 2) (s : Fin (spec0 w).nbuf), recvIx (.dma ((spec0 w).sem s)) = none := by decide
  intro w s; unfold lv; rw [if_neg (dma_ne_bar _), h]; exact Nat.le_refl 0
theorem staging_low1 (c : Dev nD) : ∀ (w : Fin 3) (s : Fin (spec1 w).nbuf), lv ((c : Thread nD τ), .dma ((spec1 w).sem s)) () ≤ 0 := by
  have h : ∀ (w : Fin 3) (s : Fin (spec1 w).nbuf), recvIx (.dma ((spec1 w).sem s)) = none := by decide
  intro w s; unfold lv; rw [if_neg (dma_ne_bar _), h]; exact Nat.le_refl 0

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem owned_sems
    ∅ untouched (Finset.empty_subset _) Gen.launch0.toP rfl (fun c => (body0 m c).loose)
    (fun _ => 0) O₀ (fun c => (owed0_zero m c).trans (zero_add _).symm) (owed0_last m) (fun _ => rfl) (fun c w => (dat0 m c).share_full (fun _ => rfl) w)
    (V₀ m) (V₁ m) (fun c b hb => Pipeline.afterRegion_off (dat0 m c) (V₀ m c) (Pipeline.ucRefs τ sig) b (Finset.mem_sdiff.mp hb).1)
    (Tk m) Yk (Xk m) Yk (opening m) (entering0 m) (leaving0 m)
    (fun c => by iintro H; imodintro; iexact H)
    (fun _ => 0)
    ⟨fun c w s => by rw [L_tc]; exact Finset.mem_singleton_self _, fun c w s => staging_low0 c w s, fun c t g i h => cut0 m c t g i h⟩
    (fun _ => iprop(emp))
    (fun c w => A0_eq m c w) (fun c w => (Pipeline.afterRegion_arr (dat0 m c) (V₀ m c) Gen.winFacts0.arr_inj w).symm)

set_option backward.isDefEq.respectTransparency.types false in
/-- The product runs beside the barrier's counter. -/
def reg1 : Pipeline.RegionSeg (pcfgs (F := F)) adm (pdats m) () defs₀ 𝒱₀ L lv 1 :=
  Pipeline.RegionSeg.ofHeldIn (pcfgs (F := F)) adm (pdats m) () defs₀ 𝒱₀ L lv 1 (fun _ => 0)
    (Pipeline.ucRefs τ sig) (fun c => iprop(∃ r, prngReg c r)) (fun c => iprop(∃ r, prngReg c r))
    Gen.launch1.toP rfl (fun c => (body1 m c).loose)
    (fun _ _ => rfl) (fun _ => rfl) (fun c w => (dat1 m c).share_full (fun _ => rfl) w)
    (fun _ => .rfl) (fun _ => .rfl)
    (fun _ => 0)
    ⟨fun c w s => by rw [L_tc]; exact Finset.mem_singleton_self _, fun c w s => staging_low1 c w s, fun c g i h => absurd h (Nat.lt_irrefl 0)⟩
    (fun c => Yk c) (V₁ m) (fun c w => A1_eq m c w)

/-! ## What the segments begin from and end with -/

abbrev pool (c : Dev nD) (W : Valuation τ sig (Elt F)) : sProp 𝕄 := StableHlo.held (c.tc : Thread nD τ) (Pipeline.ucRefs τ sig) W
abbrev quiet (c : Dev nD) : sProp 𝕄 := iprop(∃ W, owes (c : Thread nD τ) (0 : CellTallies nD τ sig Unit) W)

/-- At launch. -/
def T₀ (c : Dev nD) : sProp 𝕄 :=
  iprop(pool c (V₀ m c) ∗ Tk m c ∗ (∃ r, prngReg c r) ∗ ∃ W, owes (c : Thread nD τ) (O₀ c) W)
/-- Between the kernels. -/
def T₁ (c : Dev nD) : sProp 𝕄 := iprop(pool c (V₁ m c) ∗ (quiet c ∗ (∃ r, prngReg c r) ∗ Yk c))
/-- At the end. -/
def Tₙ (c : Dev nD) : sProp 𝕄 := iprop(pool c (V₂ m c) ∗ Yk c)

theorem reg0_pre (c : Dev nD) : T₀ m c ⊢ (reg0 m).pre c := by
  show _ ⊢ iprop(StableHlo.held (c.tc : Thread nD τ) (Pipeline.arrRefs (τ := τ) spec0) (V₀ m c) ∗ (∃ r, prngReg c r)
    ∗ (StableHlo.held (c.tc : Thread nD τ) untouched (V₀ m c) ∗ emp) ∗ Tk m c ∗ ∃ Wd, owes (c : Thread nD τ) (0 + O₀ c) Wd)
  unfold T₀
  rw [zero_add, show (pool c (V₀ m c) : sProp 𝕄) = _ from StableHlo.held_sub_split (c.tc) arrRefs0_sub (V₀ m c)]
  iintro ⟨⟨Ha, Hu⟩, HT, Hp, HO⟩
  isplitl [Ha]; · iexact Ha
  isplitl [Hp]; · iexact Hp
  isplitl [Hu]
  · isplitl [Hu]; · iexact Hu
    iempintro
  isplitl [HT] <;> iassumption

theorem reg0_post (c : Dev nD) : (reg0 m).post c ⊢ T₁ m c := by
  show iprop(StableHlo.held (c.tc : Thread nD τ) (Pipeline.arrRefs (τ := τ) spec0) (V₁ m c) ∗ (∃ r, prngReg c r)
    ∗ (StableHlo.held (c.tc : Thread nD τ) untouched (V₁ m c) ∗ emp) ∗ Yk c ∗ ∃ Wd, owes (c : Thread nD τ) (0 : CellTallies nD τ sig Unit) Wd) ⊢ _
  unfold T₁
  rw [show (pool c (V₁ m c) : sProp 𝕄) = _ from StableHlo.held_sub_split (c.tc) arrRefs0_sub (V₁ m c)]
  iintro ⟨Ha, Hp, ⟨Hu, -⟩, HY, HO⟩
  isplitl [Ha Hu]; · isplitl [Ha] <;> iassumption
  isplitl [HO]; · iexact HO
  isplitl [Hp] <;> iassumption

theorem reg1_pre (c : Dev nD) : T₁ m c ⊢ (reg1 m).pre c := by
  show _ ⊢ iprop(StableHlo.held (c.tc : Thread nD τ) (Pipeline.arrRefs (τ := τ) spec1) (V₁ m c) ∗ (∃ r, prngReg c r)
    ∗ (StableHlo.held (c.tc : Thread nD τ) (Pipeline.ucRefs τ sig \ Pipeline.arrRefs (τ := τ) spec1) (V₁ m c) ∗ Yk c) ∗ quiet c)
  unfold T₁
  rw [show (pool c (V₁ m c) : sProp 𝕄) = _ from StableHlo.held_sub_split (c.tc) arrRefs1_sub (V₁ m c)]
  iintro ⟨⟨Ha, Hu⟩, HO, Hp, HY⟩
  isplitl [Ha]; · iexact Ha
  isplitl [Hp]; · iexact Hp
  isplitr [HO]
  · isplitl [Hu] <;> iassumption
  · iexact HO

theorem reg1_post (c : Dev nD) : (reg1 m).post c ⊢ iprop(Tₙ m c ∗ quiet c) := by
  refine (show (reg1 m).post c ⊢ _ from Pipeline.RegionSeg.ofHeldIn_post arrRefs1_sub c).trans ?_
  show iprop(pool c (V₂ m c) ∗ (quiet c ∗ (∃ r, prngReg c r) ∗ Yk c)) ⊢ _
  unfold Tₙ
  iintro ⟨Hh, HO, -, HY⟩
  isplitr [HO]
  · isplitl [Hh] <;> iassumption
  · iexact HO

def segs : List (Pipeline.Seg (pcfgs (F := F)) adm (pdats m) () defs₀ 𝒱₀ L lv) := [.region (reg0 m), .region (reg1 m)]

theorem main_eq (c : Dev nD) : main (F := F) c = Pipeline.Seg.run (segs m) := Gen.main_segs adm (pdats m) () 𝒱₀ L lv (reg0 m) (reg1 m) c

end Cert.KernelIdeal.Exchange
-- ==== Proof.Launch.lean ====
/-
  The launch: the credit each device has to wait with, from what all of them owe; the protocol's ghost state, made once
  and dealt to the devices.
-/
module

public import proofs.«01_k».proof.Proof.Segments

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The credit at launch -/

theorem sum_around (d : Dev nD) (f : Dev nD → CellTallies nD τ sig Unit) (g : GSem nD τ sig) :
    (∑ e ∈ Finset.Ico 1 32, f (onw d e)) g () = ∑ p ∈ Finset.univ.erase d, f p g () := by
  rw [← image_to, Finset.sum_image (to_injOn d), Finset.sum_apply, Finsupp.finset_sum_apply]

theorem cell_dev {c p : Dev nD} {s s' : SemLoc sig} (h : (((c : Thread nD τ), s) : GSem nD τ sig) = ((p : Thread nD τ), s')) : c = p :=
  congrArg (fun g : GSem nD τ sig => g.1.1) h
theorem recv_ne_bar (j : Dev nD) : (SemLoc.dma (recvS j) : SemLoc sig) ≠ .reg barS := dma_ne_bar _
theorem recvS_inj {j j' : Dev nD} (h : (SemLoc.dma (recvS j) : SemLoc sig) = .dma (recvS j')) : j = j' :=
  Option.some.inj ((recvIx_recv j).symm.trans ((congrArg recvIx h).trans (recvIx_recv j')))
theorem sendS_inj {j j' : Dev nD} (h : (SemLoc.dma (sendS j) : SemLoc sig) = .dma (sendS j')) : j = j' :=
  Option.some.inj ((sendIx_send j).symm.trans ((congrArg sendIx h).trans (sendIx_send j')))
theorem send_ne_recv {j j' : Dev nD} (h : (SemLoc.dma (sendS j) : SemLoc sig) = .dma (recvS j')) : False :=
  Option.some_ne_none _ ((sendIx_send j).symm.trans ((congrArg sendIx h).trans (sendIx_recv j')))

theorem owed_bar (d c : Dev nD) : O₀ d (barCell c) () = if c ∈ Finset.univ.erase d then 1 else 0 := by
  unfold O₀ owedCopies owedSignals
  rw [Pi.add_apply, Finsupp.add_apply, sum_around d (fun p => tallyAt (recvCell p d) () N), sum_around d (fun p => tallyAt (barCell p) () 1),
    Finset.sum_eq_zero (fun p _ => by rw [tallyAt_ne_cell fun h => recv_ne_bar d (congrArg Prod.snd h).symm]; rfl), Nat.zero_add,
    ← Finset.sum_ite_eq (Finset.univ.erase d) c fun _ => 1]
  refine Finset.sum_congr rfl fun p _ => ?_
  rw [tallyAt_apply]
  by_cases h : c = p
  · subst h; rw [if_pos ⟨rfl, rfl⟩, if_pos rfl]
  · rw [if_neg (fun hh => h (cell_dev hh.1)), if_neg h]

theorem owed_recv (d c j : Dev nD) : O₀ d (recvCell c j) () = if d = j then (if c ∈ Finset.univ.erase j then N else 0) else 0 := by
  unfold O₀ owedCopies owedSignals
  rw [Pi.add_apply, Finsupp.add_apply, sum_around d (fun p => tallyAt (recvCell p d) () N), sum_around d (fun p => tallyAt (barCell p) () 1),
    Finset.sum_eq_zero (s := Finset.univ.erase d) (f := fun p => tallyAt (barCell p) () 1 (recvCell c j) ())
      (fun p _ => by rw [tallyAt_ne_cell fun h => recv_ne_bar j (congrArg Prod.snd h)]; rfl), Nat.add_zero]
  by_cases hd : d = j
  · subst hd
    rw [if_pos rfl, ← Finset.sum_ite_eq (Finset.univ.erase d) c fun _ => N]
    refine Finset.sum_congr rfl fun p _ => ?_
    rw [tallyAt_apply]
    by_cases h : c = p
    · subst h; rw [if_pos ⟨rfl, rfl⟩, if_pos rfl]
    · rw [if_neg (fun hh => h (cell_dev hh.1)), if_neg h]
  · rw [if_neg hd]
    refine Finset.sum_eq_zero fun p _ => ?_
    rw [tallyAt_apply, if_neg fun hh => hd (recvS_inj (congrArg Prod.snd hh.1)).symm]

theorem count_others : ∀ c : Dev nD, (∑ d : Dev nD, if c ∈ Finset.univ.erase d then 1 else 0) = 31 := by decide +kernel

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, count_others]

theorem launch_recv (c j : Dev nD) (h : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ j fun _ => _,
    if_pos (Finset.mem_univ _), if_pos (Finset.mem_erase.mpr ⟨h.symm, Finset.mem_univ _⟩)]

theorem recv_sems_injOn (c : Dev nD) : Set.InjOn (fun e => (SemLoc.dma (recvS (fr c e)) : SemLoc sig)) (Finset.Ico 1 32 : Finset ℕ) :=
  fun _ ha _ hb h => fr_injOn c ha hb (recvS_inj h)

theorem launchCred_split (c : Dev nD) : (Pipeline.launchCred O₀ c : sProp 𝕄) = iprop(cred (tallyAt (barCell c) () 31)
    ∗ bigSep (Finset.univ.erase (SemLoc.reg barS)) fun s => cred (tallyOn ((c : Thread nD τ), s) (launchCredit (Pipeline.owing O₀) 0 ((c : Thread nD τ), s)))) := by
  unfold Pipeline.launchCred
  rw [bigSep_univ_at _ (SemLoc.reg barS), launch_bar]

theorem recv_sems_sub (c : Dev nD) :
    (Finset.Ico 1 32).image (fun e => (SemLoc.dma (recvS (fr c e)) : SemLoc sig)) ⊆ Finset.univ.erase (SemLoc.reg barS) := fun s hs => by
  obtain ⟨e, -, rfl⟩ := Finset.mem_image.mp hs
  exact Finset.mem_erase.mpr ⟨recv_ne_bar _, Finset.mem_univ _⟩

theorem recv_creds (c : Dev nD) (e : ℕ) (he : e ∈ Finset.Ico 1 32) :
    (cred (tallyOn (recvCell c (fr c e)) (launchCredit (Pipeline.owing O₀) 0 (recvCell c (fr c e)))) : sProp 𝕄) = cred (tallyAt (recvCell c (fr c e)) () N) := by
  rw [launch_recv c (fr c e) (fr_ne c (Finset.mem_Ico.mp he).1 (Finset.mem_Ico.mp he).2)]

omit [FloatOps F] in
theorem bigSep_part {I : Type} [DecidableEq I] (f : ℕ → I) (s : Finset ℕ) (t : Finset I) (inj : Set.InjOn f s) (sub : s.image f ⊆ t) (Φ : I → sProp 𝕄) :
    bigSep t Φ ⊢ bigSep s fun e => Φ (f e) :=
  (bigSep_subset sub).trans (Entails.of_eq (bigSep_image_of_injOn inj Φ))

theorem recv_part (c : Dev nD) (Φ : SemLoc sig → sProp 𝕄) :
    bigSep (Finset.univ.erase (SemLoc.reg barS)) Φ ⊢ bigSep (Finset.Ico 1 32) fun e => Φ (.dma (recvS (fr c e))) :=
  bigSep_part (fun e => (SemLoc.dma (recvS (fr c e)) : SemLoc sig)) _ _ (recv_sems_injOn c) (recv_sems_sub c) Φ

theorem creds_intro (c : Dev nD) : (Pipeline.launchCred O₀ c : sProp 𝕄) ⊢ creds c := by
  unfold creds
  rw [launchCred_split]
  exact sep_mono_right ((recv_part c _).trans (Entails.of_eq (bigSep_congr fun e he => recv_creds c e he)))

/-! ## The protocol's ghost state -/

theorem osem_inj : Function.Injective osem := by
  rintro (e | j) (e' | j') h
  · exact congrArg _ (sendS_inj h)
  · exact (send_ne_recv h).elim
  · exact (send_ne_recv h.symm).elim
  · exact congrArg _ (recvS_inj h)
theorem osem_ne_bar (k : Dev nD ⊕ Dev nD) : osem k ≠ .reg barS := by
  rcases k with e | j <;> exact dma_ne_bar _

def barEmb : Dev nD ↪ GSem nD τ sig := ⟨fun c => barCell c, fun _ _ h => cell_dev h⟩
def ownEmb : Dev nD × (Dev nD ⊕ Dev nD) ↪ GSem nD τ sig :=
  ⟨fun ck => ((ck.1 : Thread nD τ), osem ck.2), fun _ _ h => Prod.ext (cell_dev h) (osem_inj (congrArg Prod.snd h))⟩
/-- The barrier cells, and the scoped send and receive cells. -/
abbrev barCells : Finset (GSem nD τ sig) := Finset.univ.map barEmb
abbrev ownCells : Finset (GSem nD τ sig) := Finset.univ.map ownEmb

/-- The cells device `c` pays to: the barrier cells, its receive cell on each device, its own send cells. -/
def payTo (c : Dev nD) : Dev nD ⊕ (Dev nD ⊕ Dev nD) → GSem nD τ sig := fun
  | .inl p => barCell p
  | .inr (.inl p) => recvCell p c
  | .inr (.inr e) => sendCell c e
theorem payTo_inj (c : Dev nD) : Function.Injective (payTo c) := by
  rintro (p | p | e) (p' | p' | e') h
  · exact congrArg _ (cell_dev h)
  · exact (dma_ne_bar _ (congrArg Prod.snd h).symm).elim
  · exact (dma_ne_bar _ (congrArg Prod.snd h).symm).elim
  · exact (dma_ne_bar _ (congrArg Prod.snd h)).elim
  · exact congrArg _ (congrArg _ (cell_dev h))
  · exact (send_ne_recv (congrArg Prod.snd h).symm).elim
  · exact (dma_ne_bar _ (congrArg Prod.snd h)).elim
  · exact (send_ne_recv (congrArg Prod.snd h)).elim
  · exact congrArg _ (congrArg _ (sendS_inj (congrArg Prod.snd h)))
def dutyEmb : Dev nD × (Dev nD ⊕ (Dev nD ⊕ Dev nD)) ↪ GSem nD τ sig × ℕ × Dev nD :=
  ⟨fun ck => (payTo ck.1 ck.2, 0, ck.1), fun a b h => by
    have h1 : a.1 = b.1 := congrArg (fun t : GSem nD τ sig × ℕ × Dev nD => t.2.2) h
    obtain ⟨a1, a2⟩ := a; obtain ⟨b1, b2⟩ := b
    dsimp only at h1; subst h1
    exact congrArg _ (payTo_inj a1 (congrArg Prod.fst h))⟩
abbrev dutyToks : Finset (GSem nD τ sig × ℕ × Dev nD) := Finset.univ.map dutyEmb

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem cell_mem (i : Ix) : cell i ∈ (barCells ∪ ownCells : Finset (GSem nD τ sig)) := by
  obtain ⟨c, ⟨⟩ | k⟩ := i
  · exact Finset.mem_union_left _ (Finset.mem_map_of_mem barEmb (Finset.mem_univ c))
  · exact Finset.mem_union_right _ (Finset.mem_map_of_mem ownEmb (Finset.mem_univ (c, k)))

theorem staging_inj : Function.Injective (Pipeline.cellOf (nD := nD) (τ := τ) (Pipeline.pin (pcfgs (F := F)) adm)) := Gen.cellOf_inj

def u₀ : UU :=
  (initOf (Pipeline.cells (Pipeline.pin (pcfgs (F := F)) adm) staging_inj) (Pipeline.launchToks (Pipeline.pin (pcfgs (F := F)) adm) staging_inj),
    launchOf barCells ownCells dutyToks)

/-- The whole of the protocol's element, kept with device 0 until it is dealt. -/
def G (c : Dev nD) : sProp 𝕄 := if c = 0 then BI.own (ER (launchOf barCells ownCells dutyToks)) else iprop(emp)
theorem G_all : bigSep Finset.univ (G (F := F)) = BI.own (ER (launchOf barCells ownCells dutyToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What is known of the cells, under one choice of names. -/
def knownCells (κ : GSem nD τ sig → ℕ) : sProp 𝕄 :=
  iprop((bigSep (barCells ∪ ownCells) fun g => cellInv ER (rd (inputs m)) (κ g) g) ∗ bigSep barCells fun g => reached ER g 0)
instance knownCells_persistent (κ : GSem nD τ sig → ℕ) : BI.Persistent (knownCells m κ) := by unfold knownCells; infer_instance

theorem known_of_cells (κ : GSem nD τ sig → ℕ) : knownCells m κ ⊢ known (inputs m) κ := by
  unfold knownCells known
  have h1 : (bigSep (barCells ∪ ownCells) fun g => (cellInv ER (rd (inputs m)) (κ g) g : sProp 𝕄))
      ⊢ bigSep Finset.univ fun i : Ix => cellInv ER (rd (inputs m)) (κ (cell i)) (cell i) :=
    bigSep_intro_persistent fun i _ => bigSep_elim (Φ := fun g => cellInv ER (rd (inputs m)) (κ g) g) (cell_mem i)
  have h2 : (bigSep barCells fun g => (reached ER g 0 : sProp 𝕄)) ⊢ bigSep Finset.univ fun c : Dev nD => reached ER (barCell c) 0 :=
    Entails.of_eq (bigSep_map (s := Finset.univ) barEmb (Φ := fun g : GSem nD τ sig => (reached ER g 0 : sProp 𝕄)))
  exact Idealize.SL.BI.sep_mono h1 h2

theorem toks_dealt : bigSep dutyToks (fun x => (dutyTok ER x.1 x.2.1 x.2.2 : sProp 𝕄)) = bigSep Finset.univ fun c : Dev nD => toks c := by
  rw [bigSep_map, bigSep_univ_prod]
  refine bigSep_congr fun c _ => ?_
  unfold toks
  have hs (Φ : Dev nD ⊕ (Dev nD ⊕ Dev nD) → sProp 𝕄) : bigSep Finset.univ Φ
      = iprop((bigSep Finset.univ fun p => Φ (.inl p)) ∗ bigSep Finset.univ fun k => Φ (.inr k)) := bigSep_univ_sum Φ
  rw [hs, univ_sum]
  rfl

/-! ## Dealing -/

/-- What of device `c`'s launch holdings is not the protocol's. -/
def bundle (c : Dev nD) : sProp 𝕄 :=
  iprop(pool c (V₀ m c) ∗ creds c ∗ (∃ r, prngReg c r) ∗ owes (c : Thread nD τ) (O₀ c) ∅)
/-- What of the protocol's is device `c`'s alone. -/
def share (c : Dev nD) : sProp 𝕄 := iprop(atPos ER (barCell c) 0 ∅ 0 ∗ rights c ∗ toks c)

theorem T₀_intro (κ : GSem nD τ sig → ℕ) (c : Dev nD) : iprop(knownCells m κ ∗ (share c ∗ bundle m c)) ⊢ T₀ m c := by
  unfold share bundle T₀ Tk
  iintro ⟨HK, ⟨Ha, Hr, Ht⟩, Hh, Hc, Hp, HO⟩
  isplitl [Hh]; · iexact Hh
  isplitl [HK Ha Hr Ht Hc]
  · isplitl [HK]
    · iexists κ; iapply (known_of_cells m κ) $$ HK
    isplitl [Ht]; · iexact Ht
    isplitl [Hc]; · iexact Hc
    isplitl [Ha] <;> iassumption
  isplitl [Hp]; · iexact Hp
  iexists ∅; iexact HO

theorem unscopedSems_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev atLaunch (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

theorem sorted (c : Dev nD) : atLaunch m ρ c ⊢ iprop(bundle m c ∗ (semVal (barCell c) 0 ∗ G c)) := by
  unfold atLaunch
  rw [show unscopedBufs c (fun b => m ((c : Thread nD τ).loc b)) = pool c (V₀ m c) from Pipeline.unscopedBufs_held c (V₀ m c), unscopedSems_bar]
  unfold bundle
  iintro ⟨Hh, Hus, HO, Hcr, Hp, HG⟩
  isplitl [Hh HO Hcr Hp]
  · isplitl [Hh]; · iexact Hh
    isplitl [Hcr]; · iapply (creds_intro c) $$ Hcr
    isplitl [Hp]; · iexists (ρ c); iexact Hp
    iexact HO
  isplitl [Hus] <;> iassumption

theorem sorted_all : (bigSep Finset.univ (atLaunch m ρ) : sProp 𝕄)
    ⊢ bigSep Finset.univ fun c : Dev nD => iprop(bundle m c ∗ (semVal (barCell c) 0 ∗ G c)) := bigSep_mono fun c _ => sorted m ρ c

theorem init : iprop((bigSep Finset.univ fun c : Dev nD => atLaunch m ρ c) ∗ levAts L lv)
    ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄)) ⊢ bigSep Finset.univ (fun c : Dev nD => rights c) :=
    Entails.of_eq (by rw [bigSep_map, bigSep_univ_prod]; rfl)
  iintro ⟨H, -⟩
  ihave H' := (sorted_all m ρ) $$ H
  ihave H2 := (Entails.of_eq (bigSep_sep' Finset.univ (bundle m) fun c : Dev nD => iprop(semVal (barCell c) 0 ∗ G c))) $$ H'; icases H2 with ⟨HB, H3⟩
  ihave H4 := (Entails.of_eq (bigSep_sep' Finset.univ (fun c : Dev nD => (semVal (barCell c) 0 : sProp 𝕄)) (G (F := F)))) $$ H3; icases H4 with ⟨Hv, HG⟩
  ihave Hu := (Entails.of_eq (G_all (F := F))) $$ HG
  imod (Rounds.fund_launch ER (rd (inputs m)) cells_disjoint (fun g _ h => h) dutyToks) $$ [Hv Hu] with ⟨%κ, -, #Hinv, #Hr, Hat, Hopen, Htok⟩
  · isplitl [Hv]
    · iapply hv $$ Hv
    · iexact Hu
  imodintro
  iapply (bigSep_with_persistent (R := knownCells m κ) (Φ := fun c => iprop(share c ∗ bundle m c)) fun c _ => T₀_intro m κ c)
  isplitr
  · unfold knownCells
    isplitr; · iexact Hinv
    iexact Hr
  iapply (Entails.of_eq (bigSep_sep' Finset.univ _ _).symm)
  isplitr [HB]
  · unfold share
    iapply (Entails.of_eq (bigSep_sep' Finset.univ _ _).symm); isplitl [Hat]; · iapply hat $$ Hat
    iapply (Entails.of_eq (bigSep_sep' Finset.univ _ _).symm); isplitl [Hopen]; · iapply hopen $$ Hopen
    iapply (Entails.of_eq (toks_dealt (F := F))) $$ Htok
  · iexact HB

/-! ## The run -/

theorem unscoped_sem : ∀ sm : SemLoc sig, sm.isScoped .tc = false → sm = .reg barS := by decide

set_option backward.isDefEq.respectTransparency.types false in
/-- From any memory with zero counters every run of the program on the 32 devices ends with every device's buffers as the
    second kernel leaves them, and every counter at zero. -/
theorem run_main : θ_run defs (onTc (τ := τ) (main (F := F))) ⟨m, fun _ => 0, ρ⟩
    (fun r => (∀ c : Dev nD, ∀ b ∈ Pipeline.ucRefs τ sig, r.2.mem (c, b) = V₂ m c b) ∧ r.2.sem = fun _ => 0) :=
  Pipeline.θ_run_regions_kit_sems (pcfgs (F := F)) adm (pdats m) () staging_inj EP defs₀ 𝒱₀ L lv m ρ main (segs m)
    (fun c Q => by rw [main_eq m c])
    (by simp only [segs, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => reg0_pre m c, fun c => (reg0_post m c).trans (reg1_pre m c), fun c => reg1_post m c⟩)
    (hinit := init m ρ)
    (QY := fun c s => (∀ b ∈ Pipeline.ucRefs τ sig, s.mem (c, b) = V₂ m c b) ∧ s.sem (barCell c) = 0)
    (hfin := fun c s' => by
      have hread := pointsTo_read_all (F := V₂ m c) (Ix := Unit) (Name := ℕ) (U := UU) (Lvl := ℕ) (Pipeline.ucRefs τ sig) (fun b => ((c : Dev nD), b)) s'
      unfold Tₙ Yk pool StableHlo.held
      iintro ⟨⟨Hh, Hb0⟩, HSI⟩
      icombine HSI Hb0 gives %hb
      ihave H := hread $$ [Hh HSI]
      · isplitl [Hh] <;> iassumption
      icases H with ⟨%h, HSI⟩
      imodintro
      isplitr
      · ipureintro
        exact ⟨h, by simpa using hb⟩
      iexact HSI)
    (hQ := fun s h hs => ⟨fun c => (h c).1, sem_eq_zero hs fun c sm hsm => by
        obtain rfl := unscoped_sem sm hsm
        exact (h c).2⟩)

end Cert.KernelIdeal.Exchange
-- ==== Proof.Result.lean ====
/-
  What the two kernels leave, read off: the all-to-all leaves device `c` rows `128·c, …, 128·c + 127` of the whole left
  matrix, the product leaves those rows of the product.
-/
module

public import proofs.«01_k».proof.Proof.Launch
public import proofs.«01_k».proof.Proof.ReferenceRun
public import Idealize.ShloMosaic.Lib.Layout
public import Idealize.ShloMosaic.Lib.Pointwise
public import Idealize.ShloMosaic.Lib.Pipeline.Covers

@[expose] public section

set_option maxRecDepth 16384

noncomputable section

namespace Cert.KernelIdeal.Exchange

open Idealize.ShloMosaic Idealize.ShloMosaic.TcCoe Idealize.SL.Sem
open Idealize.ShloMosaic.Pipeline

section Any

variable {F : FTy → Type} [FloatOps F]
variable (m : (ℓ : Loc nD τ sig) → Buf (Elt F) ℓ)

/-! ## The all-to-all -/

theorem index0_facts : ∀ t : Fin cfg0.N,
    win0_0.index t 0 = 0 ∧ win0_0.index t 1 = 0 ∧ win0_1.index t 0 = 0 ∧ win0_1.index t 1 = 0 :=
  (by decide +kernel : ∀ t : Fin grid0.N,
    win0_0.index t 0 = 0 ∧ win0_0.index t 1 = 0 ∧ win0_1.index t 0 = 0 ∧ win0_1.index t 1 = 0)

/-- The input window is the whole of the device's array. -/
theorem inputs_eq (c : Dev nD) : inputs m c = (m (c, Proc.devRef .tc main_arg0) : S4096x128.Idx → Elt F .f32) := by
  obtain ⟨h0, h1, -, -⟩ := index0_facts Gen.t0_0
  funext y
  show V₀ m c (Proc.devRef .tc main_arg0) (((cfg0.win 0).blk Gen.t0_0).view.emb y) = _
  refine congrArg (m (c, Proc.devRef .tc main_arg0)) ?_
  exact (Shape.idx_ext₂ (win0_0.rect_emb_val_of_index_zero Gen.t0_0 0 h0 y) (win0_0.rect_emb_val_of_index_zero Gen.t0_0 1 h1 y) :
    ((cfg0.win 0).blk Gen.t0_0).view.emb y = (y : S4096x128.Idx))

theorem out0_emb (t : Fin cfg0.N) (y : S128x4096.Idx) : ((cfg0.win 1).blk t).view.emb y = (y : S128x4096.Idx) := by
  obtain ⟨-, -, h0, h1⟩ := index0_facts t
  exact Shape.idx_ext₂ (win0_1.rect_emb_val_of_index_zero t 0 h0 y) (win0_1.rect_emb_val_of_index_zero t 1 h1 y)

theorem arr0_out (c : Dev nD) : (dat0 m c).arrAt 1 cfg0.N = gathered (inputs m) c :=
  Dat.arrAt_eq_of_cover _ 1 _ (fun t _ => by
    show (cfg0.win 1).cut (grid0.coords t) ((dat0 m c).after 1 t) = _
    rw [after0_1]
    funext y
    exact congrArg (gathered (inputs m) c) (out0_emb t y).symm)
    (fun i => ⟨Gen.t0_0, Gen.flush0_1 _, by
      have h := View.emb_mem_set ((cfg0.win 1).blk Gen.t0_0).view (i : S128x4096.Idx)
      rw [out0_emb Gen.t0_0 i] at h; exact h⟩)

theorem V₁_row (c : Dev nD) : V₁ m c (Proc.devRef .tc main_v1) = gathered (inputs m) c :=
  (afterRegion_arr (dat0 m c) (V₀ m c) Gen.winFacts0.arr_inj 1).trans (arr0_out m c)
theorem V₁_arg0 (c : Dev nD) : V₁ m c (Proc.devRef .tc main_arg0) = m (c, Proc.devRef .tc main_arg0) :=
  (afterRegion_arr (dat0 m c) (V₀ m c) Gen.winFacts0.arr_inj 0).trans (((dat0 m c).arrAt_in 0 rfl _).trans (A0_eq m c 0))
theorem V₁_arg1 (c : Dev nD) : V₁ m c (Proc.devRef .tc main_arg1) = m (c, Proc.devRef .tc main_arg1) :=
  afterRegion_of_not_arr (dat0 m c) (V₀ m c) (by decide)

theorem V₂_arg0 (c : Dev nD) : V₂ m c (Proc.devRef .tc main_arg0) = m (c, Proc.devRef .tc main_arg0) :=
  (afterRegion_of_not_arr (dat1 m c) (V₁ m c) (by decide)).trans (V₁_arg0 m c)
theorem V₂_arg1 (c : Dev nD) : V₂ m c (Proc.devRef .tc main_arg1) = m (c, Proc.devRef .tc main_arg1) :=
  (afterRegion_arr (dat1 m c) (V₁ m c) Gen.winFacts1.arr_inj 1).trans
    (((dat1 m c).arrAt_in 1 rfl _).trans ((A1_eq m c 1).trans (V₁_arg1 m c)))
theorem V₂_result (c : Dev nD) : V₂ m c (Proc.devRef .tc main_v2) = (dat1 m c).arrAt 2 cfg1.N :=
  afterRegion_arr (dat1 m c) (V₁ m c) Gen.winFacts1.arr_inj 2

theorem held_ref (r : Ref sig .tc) (h : r.isScoped = false) : (Proc.devRef .tc r : DevRef τ sig) ∈ ucRefs τ sig :=
  Finset.mem_filter.mpr ⟨StableHlo.devRef_mem_tcRefs r, fun h' => Bool.false_ne_true (h.symm.trans h')⟩

/-- The run's arguments, result and counters. -/
theorem run_read (ρ : Dev nD → PrngReg) : θ_run defs (onTc (τ := τ) (main (F := F))) ⟨m, fun _ => 0, ρ⟩
    (fun r => (∀ c : Dev nD, r.2.mem ((c.tc : Thread nD τ).loc main_v2) = (dat1 m c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c =>
      ⟨(h.1 c _ (held_ref main_v2 rfl)).trans (V₂_result m c), (h.1 c _ (held_ref main_arg0 rfl)).trans (V₂_arg0 m c),
        (h.1 c _ (held_ref main_arg1 rfl)).trans (V₂_arg1 m c)⟩, h.2⟩)
    (run_main m ρ)

end Any

/-! ## The product -/

section Exact

variable (m : (ℓ : Loc nD τ sig) → Buf (Elt Ideal) ℓ)

/-- A row block times the weights. -/
def product (x : FVec Ideal S128x4096 .f32) (w : FVec Ideal S4096x8192 .f32) : FVec Ideal S128x8192 .f32 := fun j =>
  ∑ k : Fin 4096, x (ix2 (j 0) k) * w (ix2 k (j 1))

theorem pay_apply (x : FVec Ideal S128x4096 .f32) (w : FVec Ideal S4096x512 .f32) (j : S128x512.Idx) :
    Gen.k1_pay1 (F := Ideal) x w j = ∑ k : Fin 4096, x (ix2 (j 0) k) * w (ix2 k (j 1)) := by
  pointwise [Gen.k1_pay1]

theorem zeros2 : (![0, 0] : Fin 2 → ℕ) = fun _ => 0 := by
  funext a; fin_cases a <;> rfl

/-- The grid point is the column block that windows 1 and 2 address. -/
theorem index1_facts : ∀ t : Fin cfg1.N,
    win1_0.index t 0 = 0 ∧ win1_0.index t 1 = 0 ∧ win1_1.index t 0 = 0 ∧ win1_1.index t 1 = t.val
      ∧ win1_2.index t 0 = 0 ∧ win1_2.index t 1 = t.val :=
  (by decide +kernel : ∀ t : Fin grid1.N,
    win1_0.index t 0 = 0 ∧ win1_0.index t 1 = 0 ∧ win1_1.index t 0 = 0 ∧ win1_1.index t 1 = t.val
      ∧ win1_2.index t 0 = 0 ∧ win1_2.index t 1 = t.val)

/-- What a grid point writes back is its block of the product. -/
theorem flushed_product (c : Dev nD) (t : Fin cfg1.N) :
    (dat1 m c).flushed 2 t = ((cfg1.win 2).blk t).view.read (Elt Ideal)
      (product (V₁ m c (Proc.devRef .tc main_v1)) (V₁ m c (Proc.devRef .tc main_arg1))) := by
  show (cfg1.win 2).cut (grid1.coords t) ((dat1 m c).after 2 t) = _
  rw [after1_2]
  funext y
  unfold stored
  rw [View.canon_unit_zero zeros2, View.ld_unit_zero zeros2, View.ld_unit_zero zeros2]
  obtain ⟨h00, h01, h10, h11, h20, h21⟩ := index1_facts t
  show Gen.k1_pay1 (F := Ideal) (blk1 m c 0 t) (blk1 m c 1 t) y
    = product (V₁ m c (Proc.devRef .tc main_v1)) (V₁ m c (Proc.devRef .tc main_arg1)) (((cfg1.win 2).blk t).view.emb y)
  rw [pay_apply]
  unfold product
  refine Finset.sum_congr rfl fun k _ => ?_
  have e0 : ((cfg1.win 0).blk t).view.emb (ix2 (y 0) k) = (ix2 ((((cfg1.win 2).blk t).view.emb y) 0) k : S128x4096.Idx) := by
    refine Shape.idx_ext₂ ?_ ?_
    · exact (win1_0.rect_emb_val_of_index_zero t 0 h00 (ix2 (y 0) k)).trans (win1_2.rect_emb_val_of_index_zero t 0 h20 y).symm
    · exact win1_0.rect_emb_val_of_index_zero t 1 h01 (ix2 (y 0) k)
  have e1 : ((cfg1.win 1).blk t).view.emb (ix2 k (y 1)) = (ix2 k ((((cfg1.win 2).blk t).view.emb y) 1) : S4096x8192.Idx) := by
    refine Shape.idx_ext₂ ?_ ?_
    · exact win1_1.rect_emb_val_of_index_zero t 0 h10 (ix2 k (y 1))
    · refine (win1_1.rect_emb_val t (ix2 k (y 1)) 1).trans (Eq.trans ?_ (win1_2.rect_emb_val t y 1).symm)
      rw [h11, h21]
      rfl
  exact congrArg₂ (· * ·) (congrArg (V₁ m c (Proc.devRef .tc main_v1)) e0) (congrArg (V₁ m c (Proc.devRef .tc main_arg1)) e1)

/-- Every column is in the block of one grid point. -/
theorem covered (i : S128x8192.Idx) : ∃ t : Fin cfg1.N, (cfg1.win 2).flush t = true ∧ i ∈ ((cfg1.win 2).blk t).view.set := by
  have h1 : (i 1).val < 8192 := (i 1).isLt
  have ht : (i 1).val / 512 < cfg1.N := by show (i 1).val / 512 < 16; omega
  refine ⟨⟨(i 1).val / 512, ht⟩, Gen.flush1_2 _, ?_⟩
  obtain ⟨-, -, -, -, h20, h21⟩ := index1_facts ⟨(i 1).val / 512, ht⟩
  have hmem : ((cfg1.win 2).blk ⟨(i 1).val / 512, ht⟩).view.emb
      (ix2 (i 0) (⟨(i 1).val % 512, Nat.mod_lt _ (by decide)⟩ : Fin 512) : S128x512.Idx)
        ∈ ((cfg1.win 2).blk ⟨(i 1).val / 512, ht⟩).view.set := View.emb_mem_set _ _
  have he : ((cfg1.win 2).blk ⟨(i 1).val / 512, ht⟩).view.emb
      (ix2 (i 0) (⟨(i 1).val % 512, Nat.mod_lt _ (by decide)⟩ : Fin 512) : S128x512.Idx) = i := by
    refine Shape.idx_ext₂ ?_ ?_
    · exact win1_2.rect_emb_val_of_index_zero ⟨(i 1).val / 512, ht⟩ 0 h20 (ix2 (i 0) (⟨(i 1).val % 512, Nat.mod_lt _ (by decide)⟩ : Fin 512))
    · refine (win1_2.rect_emb_val ⟨(i 1).val / 512, ht⟩ (ix2 (i 0) (⟨(i 1).val % 512, Nat.mod_lt _ (by decide)⟩ : Fin 512)) 1).trans ?_
      rw [h21]
      exact Nat.div_add_mod' _ 512
  rw [he] at hmem
  exact hmem

/-- Device `c`'s result: its gathered rows times the weights. -/
theorem result_product (c : Dev nD) :
    (dat1 m c).arrAt 2 cfg1.N = product (gathered (inputs m) c) (m (c, Proc.devRef .tc main_arg1)) :=
  (Dat.arrAt_eq_of_cover _ 2 _ (fun t _ => flushed_product m c t) covered).trans (by rw [V₁_row, V₁_arg1])

/-! ## Against the whole product -/

theorem whole_apply (X : FVec Ideal Cert.ReferenceIdeal.S4096x4096 .f32) (W : FVec Ideal Cert.ReferenceIdeal.S4096x8192 .f32)
    (j : Cert.ReferenceIdeal.S4096x8192.Idx) :
    Cert.ReferenceIdeal.Whole.dot (F := Ideal) X W j = ∑ k : Fin 4096, X (ix2 (j 0) k) * W (ix2 k (j 1)) := by
  unfold Cert.ReferenceIdeal.Whole.dot
  pointwise

/-- When each device holds its column block of `X`, device `c` gathers the rows of `X` from `128·c` on. -/
theorem gathered_rows (X : FVec Ideal Cert.ReferenceIdeal.S4096x4096 .f32)
    (h : ∀ c : Dev nD, inputs m c = Layout.block ⟨2, ![4096, 128]⟩ ⟨2, ![4096, 4096]⟩ 1 32 c X) (c : Dev nD)
    (r : Fin 128) (k : Fin 4096) (R : Fin 4096) (hR : R.val = c.val * 128 + r.val) :
    gathered (inputs m) c (ix2 r k : S128x4096.Idx) = X (ix2 R k) := by
  unfold gathered
  rw [h, Layout.block_apply]
  refine congrArg X (Shape.idx_ext₂ ?_ ?_)
  · show 128 * c.val + r.val = R.val
    rw [hR, Nat.mul_comm]
  · show k.val / 128 * 128 + k.val % 128 = k.val
    exact Nat.div_add_mod' _ 128

theorem product_block (X : FVec Ideal Cert.ReferenceIdeal.S4096x4096 .f32) (W : FVec Ideal Cert.ReferenceIdeal.S4096x8192 .f32)
    (h : ∀ c : Dev nD, inputs m c = Layout.block ⟨2, ![4096, 128]⟩ ⟨2, ![4096, 4096]⟩ 1 32 c X) (c : Dev nD) :
    product (gathered (inputs m) c) W = Layout.block ⟨2, ![128, 8192]⟩ ⟨2, ![4096, 8192]⟩ 0 32 c (Cert.ReferenceIdeal.Whole.dot (F := Ideal) X W) := by
  funext i
  rw [Layout.block_apply, whole_apply]
  unfold product
  refine Finset.sum_congr rfl fun k _ => ?_
  exact congrArg₂ (· * ·) (gathered_rows m X h c (i 0) k _ rfl) (congrArg W (Shape.idx_ext₂ rfl rfl))

end Exact

end Cert.KernelIdeal.Exchange
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.ReferenceRun
public import proofs.«01_k».proof.Proof.Result
public import Idealize.ShloMosaic.Adequacy
public import Idealize.ShloMosaic.Init

@[expose] public section

noncomputable section

namespace Cert.Proof

open Idealize.ShloMosaic Idealize.SL.Sem Cert.KernelIdeal.Exchange

theorem frame_kernelIdeal : Cert.quiescent_KernelIdeal := fun m ρ _ =>
  (θ_run (Cert.KernelIdeal.defs (F := Ideal)) _ _).mono (fun _ h => ⟨fun c => (h.1 c).2, h.2⟩) (run_read (F := Ideal) m ρ)

/-! The two printed kernels are one text, so the run holds of either: their bodies are equal, hence their tables. -/

section Same

variable {F : FTy → Type} [FloatOps F]

theorem exchange_same (x hx y hy sends recvs) :
    Cert.Kernel.cc0_body (F := F) x hx y hy sends recvs = Cert.KernelIdeal.cc0_body (F := F) x hx y hy sends recvs := rfl

theorem product_same (t x hx w hw y hy) :
    Cert.Kernel.cc1_body (F := F) t x hx w hw y hy = Cert.KernelIdeal.cc1_body (F := F) t x hx w hw y hy := rfl

theorem bodies_same : Cert.Kernel.defs₀ (F := F) = Cert.KernelIdeal.defs₀ (F := F) := by
  refine congrArg Defs.onTc (funext fun p => funext fun a => ?_)
  match p, a with
  | 0, (t, s) => exact exchange_same ..
  | 1, (t, s) => exact product_same ..

theorem defs_same : Cert.Kernel.defs (F := F) = Cert.KernelIdeal.defs (F := F) :=
  congrArg (Pipeline.defs (Cert.KernelIdeal.pcfgs (F := F))) bodies_same

end Same

theorem frame_kernel : Cert.quiescent_Kernel := fun m ρ _ => by
  rw [defs_same]
  exact (θ_run (Cert.KernelIdeal.defs (F := Bits)) _ _).mono (fun _ h => ⟨fun c => (h.1 c).2, h.2⟩) (run_read (F := Bits) m ρ)

theorem frame_reference : Cert.quiescent_ReferenceIdeal := fun m ρ _ =>
  (θ_run _ _ _).mono (fun r h => ⟨fun c => (h c).2, sem_eq_zero_of_no_sems (by decide) r.2⟩) (Cert.ReferenceIdeal.Whole.run_dot m ρ)

/-- Device `c` ends with rows `128·c, …, 128·c + 127` of the product of the whole matrices. -/
theorem algebraic : Cert.algebraic_KernelIdeal_ReferenceIdeal := fun m ρ m' ρ' _ hm => by
  refine ⟨Cert.ReferenceIdeal.Whole.dot (F := Ideal) (m' (((0 : Dev Cert.ReferenceIdeal.nD).tc : Thread _ _).loc Cert.ReferenceIdeal.main_arg0))
    (m' (((0 : Dev Cert.ReferenceIdeal.nD).tc : Thread _ _).loc Cert.ReferenceIdeal.main_arg1)), ?_, ?_⟩
  · refine (θ_run _ _ _).mono (fun r h c => ⟨?_, (h.1 c).2⟩) (run_read (F := Ideal) m ρ)
    refine (h.1 c).1.trans ((result_product m c).trans ?_)
    refine Eq.trans ?_ (product_block m _ _ (fun d => (inputs_eq m d).trans (hm d).1) c)
    exact congrArg (product (gathered (inputs m) c)) (hm c).2
  · exact (θ_run _ _ _).mono (fun r h => h 0) (Cert.ReferenceIdeal.Whole.run_dot m' ρ')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
